-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "two_log2e" .f32 0x4038AA3B#32 ((2 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512x64 : Shape := ⟨2, ![512, 64]⟩
abbrev S512x16 : Shape := ⟨2, ![512, 16]⟩
abbrev S512x32 : Shape := ⟨2, ![512, 32]⟩
abbrev S128x512 : Shape := ⟨2, ![128, 512]⟩
abbrev S128 : Shape := ⟨1, ![128]⟩
abbrev S2048x512 : Shape := ⟨2, ![2048, 512]⟩
abbrev S1x128 : Shape := ⟨2, ![1, 128]⟩
abbrev S2048x64 : Shape := ⟨2, ![2048, 64]⟩
abbrev S2048x16 : Shape := ⟨2, ![2048, 16]⟩
abbrev S2048x32 : Shape := ⟨2, ![2048, 32]⟩
abbrev S2048x1 : Shape := ⟨2, ![2048, 1]⟩
abbrev S2048x6 : Shape := ⟨2, ![2048, 6]⟩
abbrev S2048x15 : Shape := ⟨2, ![2048, 15]⟩
abbrev S2048x8 : Shape := ⟨2, ![2048, 8]⟩
abbrev S2048 : Shape := ⟨1, ![2048]⟩
abbrev S256x256 : Shape := ⟨2, ![256, 256]⟩
abbrev S256x16 : Shape := ⟨2, ![256, 16]⟩
abbrev S256x32 : Shape := ⟨2, ![256, 32]⟩
abbrev S256x1 : Shape := ⟨2, ![256, 1]⟩
abbrev S256x128 : Shape := ⟨2, ![256, 128]⟩
abbrev S2048x128 : Shape := ⟨2, ![2048, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x2048x512, .f32⟩
  | .hbm, ⟨1, _⟩ => ⟨S512x64, .f32⟩
  | .hbm, ⟨2, _⟩ => ⟨S512x16, .f32⟩
  | .hbm, ⟨3, _⟩ => ⟨S512x32, .f32⟩
  | .hbm, ⟨4, _⟩ => ⟨S128x512, .f32⟩
  | .hbm, ⟨5, _⟩ => ⟨S128, .f32⟩
  | .hbm, ⟨6, _⟩ => ⟨S128, .f32⟩
  | .hbm, ⟨7, _⟩ => ⟨S2048x512, .f32⟩
  | .hbm, ⟨8, _⟩ => ⟨S1x128, .f32⟩
  | .hbm, ⟨9, _⟩ => ⟨S1x128, .f32⟩
  | .hbm, ⟨10, _⟩ => ⟨S2048x512, .f32⟩
  | .hbm, ⟨11, _⟩ => ⟨S1x2048x512, .f32⟩
  | .local _ .vmem, ⟨0, _⟩ => ⟨S2048x512, .f32⟩
  | .local _ .vmem, ⟨1, _⟩ => ⟨S512x64, .f32⟩
  | .local _ .vmem, ⟨2, _⟩ => ⟨S512x16, .f32⟩
  | .local _ .vmem, ⟨3, _⟩ => ⟨S512x32, .f32⟩
  | .local _ .vmem, ⟨4, _⟩ => ⟨S128x512, .f32⟩
  | .local _ .vmem, ⟨5, _⟩ => ⟨S1x128, .f32⟩
  | .local _ .vmem, ⟨6, _⟩ => ⟨S1x128, .f32⟩
  | .local _ .vmem, ⟨7, _⟩ => ⟨S2048x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "neg_log2e" => some ((-((Real.log 2)⁻¹) : ℝ) : EReal)
  | "two_log2e" => some ((2 * (Real.log 2)⁻¹ : ℝ) : EReal)
  | _ => none
-- ==== ReferenceIdeal.lean ====
abbrev S1x2048x512 : Shape := ⟨3, ![1, 2048, 512]⟩
abbrev S512x64 : Shape := ⟨2, ![512, 64]⟩
abbrev S512x16 : Shape := ⟨2, ![512, 16]⟩
abbrev S512x32 : Shape := ⟨2, ![512, 32]⟩
abbrev S128x512 : Shape := ⟨2, ![128, 512]⟩
abbrev S128 : Shape := ⟨1, ![128]⟩
abbrev S1x2048x64 : Shape := ⟨3, ![1, 2048, 64]⟩
abbrev S1x2048x8x8 : Shape := ⟨4, ![1, 2048, 8, 8]⟩
abbrev S1x8x2048x8 : Shape := ⟨4, ![1, 8, 2048, 8]⟩
abbrev S1x2048x16 : Shape := ⟨3, ![1, 2048, 16]⟩
abbrev S1x2048x2x8 : Shape := ⟨4, ![1, 2048, 2, 8]⟩
abbrev S1x2x2048x8 : Shape := ⟨4, ![1, 2, 2048, 8]⟩
abbrev S1x2048x32 : Shape := ⟨3, ![1, 2048, 32]⟩
abbrev S1x2048x2x16 : Shape := ⟨4, ![1, 2048, 2, 16]⟩
abbrev S1x2x2048x16 : Shape := ⟨4, ![1, 2, 2048, 16]⟩
abbrev S1x2x1x2048x8 : Shape := ⟨5, ![1, 2, 1, 2048, 8]⟩
abbrev S1x2x4x2048x8 : Shape := ⟨5, ![1, 2, 4, 2048, 8]⟩
abbrev S1x2x1x2048x16 : Shape := ⟨5, ![1, 2, 1, 2048, 16]⟩
abbrev S1x2x4x2048x16 : Shape := ⟨5, ![1, 2, 4, 2048, 16]⟩
abbrev S1x8x2048x16 : Shape := ⟨4, ![1, 8, 2048, 16]⟩
abbrev S1x8x1x16 : Shape := ⟨4, ![1, 8, 1, 16]⟩
abbrev S_ : Shape := ⟨0, ![]⟩
abbrev S1x8x2048x2048 : Shape := ⟨4, ![1, 8, 2048, 2048]⟩
abbrev S2048x2048 : Shape := ⟨2, ![2048, 2048]⟩
abbrev S1x1x2048x2048 : Shape := ⟨4, ![1, 1, 2048, 2048]⟩
abbrev S1x8x2048 : Shape := ⟨3, ![1, 8, 2048]⟩
abbrev S1x8x2048x1 : Shape := ⟨4, ![1, 8, 2048, 1]⟩
abbrev S1x2048x8x16 : Shape := ⟨4, ![1, 2048, 8, 16]⟩
abbrev S1x2048x128 : Shape := ⟨3, ![1, 2048, 128]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S512x64, .f32⟩
  | .hbm, ⟨2, _⟩ => ⟨S512x16, .f32⟩
  | .hbm, ⟨3, _⟩ => ⟨S512x32, .f32⟩
  | .hbm, ⟨4, _⟩ => ⟨S128x512, .f32⟩
  | .hbm, ⟨5, _⟩ => ⟨S128, .f32⟩
  | .hbm, ⟨6, _⟩ => ⟨S128, .f32⟩
  | .hbm, ⟨7, _⟩ => ⟨S1x2048x64, .f32⟩
  | .hbm, ⟨8, _⟩ => ⟨S1x2048x8x8, .f32⟩
  | .hbm, ⟨9, _⟩ => ⟨S1x8x2048x8, .f32⟩
  | .hbm, ⟨10, _⟩ => ⟨S1x2048x16, .f32⟩
  | .hbm, ⟨11, _⟩ => ⟨S1x2048x2x8, .f32⟩
  | .hbm, ⟨12, _⟩ => ⟨S1x2x2048x8, .f32⟩
  | .hbm, ⟨13, _⟩ => ⟨S1x2048x32, .f32⟩
  | .hbm, ⟨14, _⟩ => ⟨S1x2048x2x16, .f32⟩
  | .hbm, ⟨15, _⟩ => ⟨S1x2x2048x16, .f32⟩
  | .hbm, ⟨16, _⟩ => ⟨S1x2x1x2048x8, .f32⟩
  | .hbm, ⟨17, _⟩ => ⟨S1x2x4x2048x8, .f32⟩
  | .hbm, ⟨18, _⟩ => ⟨S1x8x2048x8, .f32⟩
  | .hbm, ⟨19, _⟩ => ⟨S1x2x1x2048x16, .f32⟩
  | .hbm, ⟨20, _⟩ => ⟨S1x2x4x2048x16, .f32⟩
  | .hbm, ⟨21, _⟩ => ⟨S1x8x2048x16, .f32⟩
  | .hbm, ⟨22, _⟩ => ⟨S1x8x1x16, .f32⟩
  | .hbm, ⟨23, _⟩ => ⟨S1x8x1x16, .f32⟩
  | .hbm, ⟨24, _⟩ => ⟨S_, .f32⟩
  | .hbm, ⟨25, _⟩ => ⟨S1x8x2048x8, .f32⟩
  | .hbm, ⟨26, _⟩ => ⟨S1x8x2048x8, .f32⟩
  | .hbm, ⟨27, _⟩ => ⟨S1x8x2048x8, .f32⟩
  | .hbm, ⟨28, _⟩ => ⟨S1x8x2048x8, .f32⟩
  | .hbm, ⟨29, _⟩ => ⟨S_, .f32⟩
  | .hbm, ⟨30, _⟩ => ⟨S1x8x2048x8, .f32⟩
  | .hbm, ⟨31, _⟩ => ⟨S1x8x2048x8, .f32⟩
  | .hbm, ⟨32, _⟩ => ⟨S_, .f32⟩
  | .hbm, ⟨33, _⟩ => ⟨S1x8x2048x8, .f32⟩
  | .hbm, ⟨34, _⟩ => ⟨S1x8x2048x8, .f32⟩
  | .hbm, ⟨35, _⟩ => ⟨S_, .f32⟩
  | .hbm, ⟨36, _⟩ => ⟨S1x8x2048x8, .f32⟩
  | .hbm, ⟨37, _⟩ => ⟨S1x8x2048x8, .f32⟩
  | .hbm, ⟨38, _⟩ => ⟨S1x8x2048x8, .f32⟩
  | .hbm, ⟨39, _⟩ => ⟨S1x8x2048x8, .f32⟩
  | .hbm, ⟨40, _⟩ => ⟨S_, .f32⟩
  | .hbm, ⟨41, _⟩ => ⟨S1x8x2048x8, .f32⟩
  | .hbm, ⟨42, _⟩ => ⟨S1x8x2048x8, .f32⟩
  | .hbm, ⟨43, _⟩ => ⟨S_, .f32⟩
  | .hbm, ⟨44, _⟩ => ⟨S1x8x2048x8, .f32⟩
  | .hbm, ⟨45, _⟩ => ⟨S1x8x2048x8, .f32⟩
  | .hbm, ⟨46, _⟩ => ⟨S_, .f32⟩
  | .hbm, ⟨47, _⟩ => ⟨S1x8x2048x16, .f32⟩
  | .hbm, ⟨48, _⟩ => ⟨S1x8x2048x16, .f32⟩
  | .hbm, ⟨49, _⟩ => ⟨S1x8x2048x16, .f32⟩
  | .hbm, ⟨50, _⟩ => ⟨S1x8x2048x16, .f32⟩
  | .hbm, ⟨51, _⟩ => ⟨S_, .f32⟩
  | .hbm, ⟨52, _⟩ => ⟨S1x8x2048x16, .f32⟩
  | .hbm, ⟨53, _⟩ => ⟨S1x8x2048x16, .f32⟩
  | .hbm, ⟨54, _⟩ => ⟨S_, .f32⟩
  | .hbm, ⟨55, _⟩ => ⟨S1x8x2048x16, .f32⟩
  | .hbm, ⟨56, _⟩ => ⟨S1x8x2048x16, .f32⟩
  | .hbm, ⟨57, _⟩ => ⟨S1x8x2048x2048, .f32⟩
  | .hbm, ⟨58, _⟩ => ⟨S_, .f32⟩
  | .hbm, ⟨59, _⟩ => ⟨S1x8x2048x8, .f32⟩
  | .hbm, ⟨60, _⟩ => ⟨S1x8x2048x8, .f32⟩
  | .hbm, ⟨61, _⟩ => ⟨S_, .f32⟩
  | .hbm, ⟨62, _⟩ => ⟨S1x8x2048x8, .f32⟩
  | .hbm, ⟨63, _⟩ => ⟨S1x8x2048x8, .f32⟩
  | .hbm, ⟨64, _⟩ => ⟨S1x8x2048x2048, .f32⟩
  | .hbm, ⟨65, _⟩ => ⟨S1x8x2048x2048, .f32⟩
  | .hbm, ⟨66, _⟩ => ⟨S_, .i1⟩
  | .hbm, ⟨67, _⟩ => ⟨S2048x2048, .i1⟩
  | .hbm, ⟨68, _⟩ => ⟨S2048x2048, .i32⟩
  | .hbm, ⟨69, _⟩ => ⟨S_, .i32⟩
  | .hbm, ⟨70, _⟩ => ⟨S2048x2048, .i32⟩
  | .hbm, ⟨71, _⟩ => ⟨S2048x2048, .i32⟩
  | .hbm, ⟨72, _⟩ => ⟨S2048x2048, .i32⟩
  | .hbm, ⟨73, _⟩ => ⟨S2048x2048, .i1⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S1x1x2048x2048, .i1⟩
  | .hbm, ⟨78, _⟩ => ⟨S_, .f32⟩
  | .hbm, ⟨79, _⟩ => ⟨S_, .f32⟩
  | .hbm, ⟨80, _⟩ => ⟨S1x8x2048x2048, .i1⟩
  | .hbm, ⟨81, _⟩ => ⟨S1x8x2048x2048, .f32⟩
  | .hbm, ⟨82, _⟩ => ⟨S1x8x2048x2048, .f32⟩
  | .hbm, ⟨83, _⟩ => ⟨S_, .f32⟩
  | .hbm, ⟨84, _⟩ => ⟨S1x8x2048, .f32⟩
  | .hbm, ⟨85, _⟩ => ⟨S_, .f32⟩
  | .hbm, ⟨86, _⟩ => ⟨S1x8x2048, .f32⟩
  | .hbm, ⟨87, _⟩ => ⟨S1x8x2048, .f32⟩
  | .hbm, ⟨88, _⟩ => ⟨S1x8x2048x1, .f32⟩
  | .hbm, ⟨89, _⟩ => ⟨S1x8x2048x2048, .f32⟩
  | .hbm, ⟨90, _⟩ => ⟨S1x8x2048x2048, .f32⟩
  | .hbm, ⟨91, _⟩ => ⟨S1x8x2048x2048, .f32⟩
  | .hbm, ⟨92, _⟩ => ⟨S_, .f32⟩
  | .hbm, ⟨93, _⟩ => ⟨S1x8x2048, .f32⟩
  | .hbm, ⟨94, _⟩ => ⟨S1x8x2048x1, .f32⟩
  | .hbm, ⟨95, _⟩ => ⟨S1x8x2048x2048, .f32⟩
  | .hbm, ⟨96, _⟩ => ⟨S1x8x2048x2048, .f32⟩
  | .hbm, ⟨97, _⟩ => ⟨S1x8x2048x16, .f32⟩
  | .hbm, ⟨98, _⟩ => ⟨S_, .f32⟩
  | .hbm, ⟨99, _⟩ => ⟨S1x8x2048x16, .f32⟩
  | .hbm, ⟨100, _⟩ => ⟨S1x8x2048x16, .f32⟩
  | .hbm, ⟨101, _⟩ => ⟨S1x8x2048x16, .f32⟩
  | .hbm, ⟨102, _⟩ => ⟨S1x8x2048x16, .f32⟩
  | .hbm, ⟨103, _⟩ => ⟨S1x8x2048x16, .f32⟩
  | .hbm, ⟨104, _⟩ => ⟨S1x8x2048x16, .f32⟩
  | .hbm, ⟨105, _⟩ => ⟨S1x8x2048x16, .f32⟩
  | .hbm, ⟨106, _⟩ => ⟨S1x2048x8x16, .f32⟩
  | .hbm, ⟨107, _⟩ => ⟨S1x2048x128, .f32⟩
  | .hbm, ⟨108, _⟩ => ⟨S1x2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Proof.Model.lean ====
/-
The kernel body as a structured program.

The generated payloads spell the attention out once for every block of 256 query rows, every head and every
block of 256 key rows. This module says the same thing with one definition per kind of step: a tile of
weights, its product with the values, the running sum over the key blocks, the normalised head, the block of
mixed embeddings. `out_eq` states that the body's store is this program.
-/
module

public import proofs.«01_k».proof.Proof.Gen.KernelIdeal.Frame

@[expose] public section

set_option maxRecDepth 16384

noncomputable section

namespace Cert.Proof.Model

open Idealize.ShloMosaic Idealize.SL.Sem Cert.KernelIdeal Cert.KernelIdeal.Gen

variable {F : FTy → Type} [FloatOps F] [Named F]

/-- The query features: the slice of eight gates at column `8 h`, two columns of ones, six of zeros. -/
def queries (x0 : Vec F S2048x512 .f32) (x1 : Vec F S512x64 .f32) (h : Fin 8) : FVec F S2048x16 .bf16 :=
  truncf .bf16 (concatenate S2048x16 1
    [⟨S2048x8, extractStridedSlice S2048x8 ![0, 8 * h.val] (k0_pay3 x0 x1)
        ⟨rfl, by revert h; decide⟩⟩,
     ⟨S2048x1, k0_pay6 (F := F)⟩, ⟨S2048x1, k0_pay6 (F := F)⟩, ⟨S2048x6, k0_pay7 (F := F)⟩]
    concatenates_S2048x8_S2048x1_S2048x1_S2048x6_S2048x16_d1) bitsLt_bf16_f32

/-- The eight key gates of group `g`. -/
def keyGates (x0 : Vec F S2048x512 .f32) (x2 : Vec F S512x16 .f32) (g : Fin 2) : FVec F S2048x8 .f32 :=
  extractStridedSlice S2048x8 ![0, 8 * g.val] (k0_pay4 x0 x2) ⟨rfl, by revert g; decide⟩

/-- The bias column of group `g`: minus the sum of the gates, over `log 2`. -/
def bias (x0 : Vec F S2048x512 .f32) (x2 : Vec F S512x16 .f32) (g : Fin 2) : FVec F S2048x1 .f32 :=
  mulf (broadcast S2048x1 (Named.named κ "neg_log2e" 0xBFB8AA3B#32))
    (shapeCast S2048x1 (multiReduction .add [1] S2048 (keyGates x0 x2 g) 0x00000000#32 reduces_S2048x8_S2048 (.inl rfl) rfl)
      shapeCasts_S2048_S2048x1)

/-- The bias column as it reads after one cast to sixteen bits and back. -/
def biasHi (x0 : Vec F S2048x512 .f32) (x2 : Vec F S512x16 .f32) (g : Fin 2) : FVec F S2048x1 .f32 :=
  extf .f32 (truncf .bf16 (bias x0 x2 g) bitsLt_bf16_f32) bitsLt_bf16_f32

/-- The key features: the gates scaled by `2 / log 2`, the bias, what the cast took from the bias, six columns of zeros. -/
def keys (x0 : Vec F S2048x512 .f32) (x2 : Vec F S512x16 .f32) (g : Fin 2) : FVec F S2048x16 .bf16 :=
  truncf .bf16 (concatenate S2048x16 1
    [⟨S2048x8, mulf (broadcast S2048x8 (Named.named κ "two_log2e" 0x4038AA3B#32)) (keyGates x0 x2 g)⟩,
     ⟨S2048x1, biasHi x0 x2 g⟩, ⟨S2048x1, subf (bias x0 x2 g) (biasHi x0 x2 g)⟩, ⟨S2048x6, k0_pay7 (F := F)⟩]
    concatenates_S2048x8_S2048x1_S2048x1_S2048x6_S2048x16_d1) bitsLt_bf16_f32

/-- The value features: the sixteen gates of group `g`, a column of ones, fifteen columns of zeros. -/
def values (x0 : Vec F S2048x512 .f32) (x3 : Vec F S512x32 .f32) (g : Fin 2) : FVec F S2048x32 .f32 :=
  concatenate S2048x32 1
    [⟨S2048x16, extractStridedSlice S2048x16 ![0, 16 * g.val] (k0_pay5 x0 x3) ⟨rfl, by revert g; decide⟩⟩,
     ⟨S2048x1, k0_pay6 (F := F)⟩, ⟨S2048x15, k0_pay8 (F := F)⟩]
    concatenates_S2048x16_S2048x1_S2048x15_S2048x32_d1

/-- Block `i` of 256 rows of an array of sixteen columns. -/
def rows16 (x : FVec F S2048x16 .bf16) (i : Fin 8) : FVec F S256x16 .bf16 :=
  extractStridedSlice S256x16 ![256 * i.val, 0] x ⟨rfl, by revert i; decide⟩

/-- Block `j` of 256 rows of an array of thirty-two columns. -/
def rows32 (x : FVec F S2048x32 .f32) (j : Fin 8) : FVec F S256x32 .f32 :=
  extractStridedSlice S256x32 ![256 * j.val, 0] x ⟨rfl, by revert j; decide⟩

/-- The tile of weights of query block `i` against key block `j`. -/
def tile (q k : FVec F S2048x16 .bf16) (i j : Fin 8) : FVec F S256x256 .f32 :=
  exp2 (matmul dot_S256x16_S256x16_S256x256_1_1_0_0_n_n none (rows16 q i) (rows16 k j)
    (constant S256x256 .f32 0x00000000#32))

/-- The tile's product with the value block, the whole tile counting. -/
def full (q k : FVec F S2048x16 .bf16) (v : FVec F S2048x32 .f32) (i j : Fin 8) : FVec F S256x32 .f32 :=
  matmul dot_S256x256_S256x32_S256x32_1_0_0_1_n_n none (tile q k i j) (rows32 v j)
    (constant S256x32 .f32 0x00000000#32)

/-- The diagonal tile's product with its value block: only the columns up to the row count. -/
def diag (q k : FVec F S2048x16 .bf16) (v : FVec F S2048x32 .f32) (i : Fin 8) : FVec F S256x32 .f32 :=
  matmul dot_S256x256_S256x32_S256x32_1_0_0_1_n_n none
    (select k0_pay22 (tile q k i i) (broadcast S256x256 (Scalar.ofBits .f32 0x00000000#32))) (rows32 v i)
    (constant S256x32 .f32 0x00000000#32)

/-- The running sum over the key blocks `0 … n` before the diagonal one. -/
def before (q k : FVec F S2048x16 .bf16) (v : FVec F S2048x32 .f32) (i : Fin 8) : (n : Nat) → n < 8 → FVec F S256x32 .f32
  | 0, h => full q k v i ⟨0, h⟩
  | n + 1, h => addf (before q k v i n (Nat.lt_of_succ_lt h)) (full q k v i ⟨n + 1, h⟩)

/-- The sum over the key blocks up to and with the diagonal one. -/
def total (q k : FVec F S2048x16 .bf16) (v : FVec F S2048x32 .f32) : Fin 8 → FVec F S256x32 .f32
  | ⟨0, h⟩ => diag q k v ⟨0, h⟩
  | ⟨n + 1, h⟩ => addf (before q k v ⟨n + 1, h⟩ n (Nat.lt_of_succ_lt h)) (diag q k v ⟨n + 1, h⟩)

/-- One head at one query block: the first sixteen columns of the sum over its column of weights. -/
def head (q k : FVec F S2048x16 .bf16) (v : FVec F S2048x32 .f32) (i : Fin 8) : FVec F S256x16 .f32 :=
  divf (extractStridedSlice S256x16 ![0, 0] (total q k v i) slices_S256x32_o0_0_S256x16)
    (broadcastTo S256x16 (extractStridedSlice S256x1 ![0, 16] (total q k v i) slices_S256x32_o0_16_S256x1)
      broadcasts_S256x1_S256x16)

/-- The eight heads of one query block side by side. -/
def heads (q : Fin 8 → FVec F S2048x16 .bf16) (k : Fin 2 → FVec F S2048x16 .bf16) (v : Fin 2 → FVec F S2048x32 .f32)
    (i : Fin 8) : FVec F S256x128 .f32 :=
  concatenate S256x128 1
    [⟨S256x16, head (q 0) (k 0) (v 0) i⟩, ⟨S256x16, head (q 1) (k 0) (v 0) i⟩,
     ⟨S256x16, head (q 2) (k 0) (v 0) i⟩, ⟨S256x16, head (q 3) (k 0) (v 0) i⟩,
     ⟨S256x16, head (q 4) (k 1) (v 1) i⟩, ⟨S256x16, head (q 5) (k 1) (v 1) i⟩,
     ⟨S256x16, head (q 6) (k 1) (v 1) i⟩, ⟨S256x16, head (q 7) (k 1) (v 1) i⟩]
    concatenates_S256x16_S256x16_S256x16_S256x16_S256x16_S256x16_S256x16_S256x16_S256x128_d1

/-- The two embeddings mixed by the gates of one query block. -/
def mix (e0 e1 : Vec F S1x128 .f32) (o : FVec F S256x128 .f32) : FVec F S256x128 .bf16 :=
  truncf .bf16 (addf
    (mulf (broadcastTo S256x128 (shapeCast S1x128 e0 shapeCasts_S1x128_S1x128) broadcasts_S1x128_S256x128)
      (subf (broadcast S256x128 (Scalar.ofBits .f32 0x3F800000#32)) o))
    (mulf (broadcastTo S256x128 (shapeCast S1x128 e1 shapeCasts_S1x128_S1x128) broadcasts_S1x128_S256x128) o))
    bitsLt_bf16_f32

/-- The mixed embeddings of all rows: the eight query blocks one under the other. -/
def mixed (e0 e1 : Vec F S1x128 .f32) (o : Fin 8 → FVec F S256x128 .f32) : FVec F S2048x128 .bf16 :=
  concatenate S2048x128 0
    [⟨S256x128, mix e0 e1 (o 0)⟩, ⟨S256x128, mix e0 e1 (o 1)⟩, ⟨S256x128, mix e0 e1 (o 2)⟩, ⟨S256x128, mix e0 e1 (o 3)⟩,
     ⟨S256x128, mix e0 e1 (o 4)⟩, ⟨S256x128, mix e0 e1 (o 5)⟩, ⟨S256x128, mix e0 e1 (o 6)⟩, ⟨S256x128, mix e0 e1 (o 7)⟩]
    concatenates_S256x128_S256x128_S256x128_S256x128_S256x128_S256x128_S256x128_S256x128_S2048x128_d0

/-- The kernel body: the array it stores, from the seven arrays it reads. -/
def body (x0 : Vec F S2048x512 .f32) (x1 : Vec F S512x64 .f32) (x2 : Vec F S512x16 .f32) (x3 : Vec F S512x32 .f32)
    (x4 : Vec F S128x512 .f32) (x5 x6 : Vec F S1x128 .f32) : FVec F S2048x512 .f32 :=
  k0_pay1 (mixed x5 x6 (heads (queries x0 x1) (keys x0 x2) (values x0 x3))) x4

set_option maxHeartbeats 4000000 in
/-- What the body leaves in the result's buffer is the structured program on the arrays it reads. -/
theorem out_eq (x0 : Vec F S2048x512 .f32) (x1 : Vec F S512x64 .f32) (x2 : Vec F S512x16 .f32) (x3 : Vec F S512x32 .f32)
    (x4 : Vec F S128x512 .f32) (x5 x6 : Vec F S1x128 .f32) :
    out0_7 x0 x1 x2 x3 x4 x5 x6 = View.canon [⟨r0_0, body (View.ld x0 r0_0) (View.ld x1 r0_1) (View.ld x2 r0_2)
      (View.ld x3 r0_3) (View.ld x4 r0_5) (View.ld x5 r0_4) (View.ld x6 r0_4)⟩] := rfl

end Cert.Proof.Model
-- ==== Proof.Result.lean ====
/-
The kernel's result array: after the run it holds the body's program on the argument arrays, with their unit axes moved.
-/
module

public import proofs.«01_k».proof.Proof.Model
public import Idealize.ShloMosaic.Lib.Pipeline.ValueKit
public import Idealize.ShloMosaic.Lib.Claim

@[expose] public section

set_option maxRecDepth 16384

noncomputable section

namespace Cert.Proof.Result

open Idealize.ShloMosaic Idealize.ShloMosaic.TcCoe Idealize.SL.Sem Cert.KernelIdeal Cert.KernelIdeal.Gen Cert.Proof

variable (m : (ℓ : Loc nD τ sig) → Buf (Elt Ideal) ℓ)

/-- The token array the region reads: the first argument without its unit axis. -/
def tokens (c : Dev nD) : FVec Ideal S2048x512 .f32 := V m c main_v0

/-- The first embedding the region reads: the sixth argument as one row. -/
def emb0 (c : Dev nD) : FVec Ideal S1x128 .f32 := V m c main_v1

/-- The second embedding the region reads: the seventh argument as one row. -/
def emb1 (c : Dev nD) : FVec Ideal S1x128 .f32 := V m c main_v2

/-- The token array is the first argument reshaped. -/
theorem tokens_eq (c : Dev nD) : tokens m c
    = shapeCast S2048x512 (m ((c.tc : Thread nD τ).loc main_arg0) : FVec Ideal S1x2048x512 .f32) shapeCasts_S1x2048x512_S2048x512 := by
  show StableHlo.after hostOps0 (fun b => m (c, b)) (Proc.devRef .tc main_v0) = _
  after_results
  rfl

/-- The first embedding is the sixth argument reshaped. -/
theorem emb0_eq (c : Dev nD) : emb0 m c
    = shapeCast S1x128 (m ((c.tc : Thread nD τ).loc main_arg5) : FVec Ideal S128 .f32) shapeCasts_S128_S1x128 := by
  show StableHlo.after hostOps0 (fun b => m (c, b)) (Proc.devRef .tc main_v1) = _
  after_results
  rfl

/-- The second embedding is the seventh argument reshaped. -/
theorem emb1_eq (c : Dev nD) : emb1 m c
    = shapeCast S1x128 (m ((c.tc : Thread nD τ).loc main_arg6) : FVec Ideal S128 .f32) shapeCasts_S128_S1x128 := by
  show StableHlo.after hostOps0 (fun b => m (c, b)) (Proc.devRef .tc main_v2) = _
  after_results
  rfl

/-- A token array without its unit axis, at an index. -/
theorem tokens_cast (x : FVec Ideal S1x2048x512 .f32) (r : Fin 2048) (k : Fin 512) :
    shapeCast S2048x512 x shapeCasts_S1x2048x512_S2048x512 (ix2 r k) = x (ix3 0 r k) := by
  pointwise [tokens]

/-- An embedding as one row, at a column. -/
theorem emb_cast (x : FVec Ideal S128 .f32) (k : Fin 128) :
    shapeCast S1x128 x shapeCasts_S128_S1x128 (ix2 0 k) = x (ix1 k) := by
  pointwise [emb0]

/-- Every window's block starts at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The first block is the token array. -/
theorem block0 (c : Dev nD) : iblk m c 0 t0_0 = tokens m c := by
  show iblk m c 0 t0_0 = V m c main_v0
  generalize hx : V m c main_v0 = x
  blk_ext! [iblk, hx, idx t0_0]

/-- The second block is the query weights. -/
theorem block1 (c : Dev nD) : iblk m c 1 t0_0 = m ((c.tc : Thread nD τ).loc main_arg1) := by
  blk_ext! [iblk, V_main_arg1, idx t0_0]

/-- The third block is the key weights. -/
theorem block2 (c : Dev nD) : iblk m c 2 t0_0 = m ((c.tc : Thread nD τ).loc main_arg2) := by
  blk_ext! [iblk, V_main_arg2, idx t0_0]

/-- The fourth block is the value weights. -/
theorem block3 (c : Dev nD) : iblk m c 3 t0_0 = m ((c.tc : Thread nD τ).loc main_arg3) := by
  blk_ext! [iblk, V_main_arg3, idx t0_0]

/-- The fifth block is the projection. -/
theorem block4 (c : Dev nD) : iblk m c 4 t0_0 = m ((c.tc : Thread nD τ).loc main_arg4) := by
  blk_ext! [iblk, V_main_arg4, idx t0_0]

/-- The sixth block is the first embedding. -/
theorem block5 (c : Dev nD) : iblk m c 5 t0_0 = emb0 m c := by
  show iblk m c 5 t0_0 = V m c main_v1
  generalize hx : V m c main_v1 = x
  blk_ext! [iblk, hx, idx t0_0]

/-- The seventh block is the second embedding. -/
theorem block6 (c : Dev nD) : iblk m c 6 t0_0 = emb1 m c := by
  show iblk m c 6 t0_0 = V m c main_v2
  generalize hx : V m c main_v2 = x
  blk_ext! [iblk, hx, idx t0_0]

/-- The region's result array after the run is the body's program on the arrays the region reads. -/
theorem final (c : Dev nD) : (dats m 0 c).arrAt 7 (cfgs 0).N
    = Model.body (F := Ideal) (tokens m c) (m ((c.tc : Thread nD τ).loc main_arg1)) (m ((c.tc : Thread nD τ).loc main_arg2))
        (m ((c.tc : Thread nD τ).loc main_arg3)) (m ((c.tc : Thread nD τ).loc main_arg4)) (emb0 m c) (emb1 m c) := by
  refine (dats m 0 c).arrAt_eq_of_after_last 7 t0_0 (by decide +kernel) _ fun j => ?_
  blk_simp
  rw [after0_7, Model.out_eq]
  frame_out
  rw [block0, block1, block2, block3, block4, block5, block6]

end Cert.Proof.Result
-- ==== Proof.Scalars.lean ====
/-
Facts about single values: the logistic gate as a real number, sums and quotients of real values inside the extended
reals, the power of two that the kernel takes in place of an exponential, and the softmax quotient after a shift.
-/
module

public import Idealize.ShloMosaic.Lib.Pointwise
public import Idealize.ShloMosaic.Lib.WordCmp

@[expose] public section

noncomputable section

namespace Cert.Proof.Scalars

open Idealize.ShloMosaic

/-- The real number that the logistic function takes at an extended real. -/
def gate (x : EReal) : ℝ := (Ideal.logistic x).toReal

/-- The logistic function is real everywhere. -/
theorem logistic_gate (x : EReal) : Ideal.logistic x = (gate x : EReal) := by
  unfold gate
  induction x with
  | bot => simp
  | coe r => rw [Ideal.logistic_coe, EReal.toReal_coe]
  | top => simp

/-- Division by one changes nothing. -/
theorem div_one (x : EReal) : Ideal.div x 1 = x := by
  have h := Ideal.div_coe (y := 1) one_ne_zero x
  simpa using h

/-- The quotient of two reals with a denominator that is not zero. -/
theorem div_real (a b : ℝ) (h : b ≠ 0) : Ideal.div (a : EReal) (b : EReal) = ((a / b : ℝ) : EReal) := by
  rw [Ideal.div_coe h, ← EReal.coe_mul, mul_one_div]

/-- A sum of reals, inside the extended reals. -/
theorem sum_real {ι : Type*} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- Two to the power `2 a / log 2 - b / log 2` is the exponential of `2 a - b`. -/
theorem pow_two (a b : ℝ) :
    Real.rpow 2 (2 * (Real.log 2)⁻¹ * a + -(Real.log 2)⁻¹ * b) = Real.exp (2 * a - b) := by
  have h : Real.log 2 ≠ 0 := (Real.log_pos one_lt_two).ne'
  rw [show Real.rpow 2 (2 * (Real.log 2)⁻¹ * a + -(Real.log 2)⁻¹ * b)
    = (2 : ℝ) ^ (2 * (Real.log 2)⁻¹ * a + -(Real.log 2)⁻¹ * b) from rfl, Real.rpow_def_of_pos two_pos]
  congr 1
  field_simp
  ring

/-- The weighted mean does not change when every weight is divided by one positive number. -/
theorem mean_scaled {ι : Type*} (s : Finset ι) (w x : ι → ℝ) (z : ℝ) (hz : z ≠ 0) :
    ∑ i ∈ s, (w i * z) / (∑ j ∈ s, w j * z) * x i = (∑ i ∈ s, w i * x i) / ∑ j ∈ s, w j := by
  rw [← Finset.sum_mul, Finset.sum_div]
  refine Finset.sum_congr rfl fun i _ => ?_
  rw [mul_div_mul_right _ _ hz, div_mul_eq_mul_div]

/-- A choice on the comparison of two index words is a choice on the comparison of the indices. -/
theorem select_sle {a b : ℕ} (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b
  · rw [decide_eq_true h, if_pos h]; rfl
  · rw [decide_eq_false h, if_neg h]; rfl

/-- The causal choice on index words: the row, moved down by no row, against the column. -/
theorem select_causal {r t : ℕ} (hr : r < 2 ^ 31) (ht : t < 2 ^ 31) (x y : EReal) :
    Scalar.select (Scalar.select (IntOp.cmpi .sge (IntOp.addi (BitVec.ofNat 32 r) 0#32) (BitVec.ofNat 32 t)) 1#1 0#1) x y
      = if t ≤ r then x else y := by
  have h0 : IntOp.addi (BitVec.ofNat 32 r) 0#32 = BitVec.ofNat 32 r := BitVec.add_zero _
  rw [h0, WordCmp.cmpi_sge_ofNat hr ht]
  by_cases h : t ≤ r
  · rw [decide_eq_true h, if_pos h]; rfl
  · rw [decide_eq_false h, if_neg h]; rfl

/-- The piece and the place in the piece of position `n k + e`, for eight pieces of length `n`. -/
theorem piece {α : Type*} {n : ℕ} (f : Fin 8 → Fin n → α) {c : ℕ} (hc : c < n * 8) (hn : 0 < n) (k : Fin 8) (e : ℕ)
    (he : e < n) (h : c = e + n * k.val) :
    f k ⟨e, he⟩ = f ⟨c / n, Nat.div_lt_of_lt_mul hc⟩ ⟨c % n, Nat.mod_lt _ hn⟩ := by
  subst h
  congr 1
  · exact Fin.ext (by simp [Nat.add_mul_div_left _ _ hn, Nat.div_eq_of_lt he])
  · exact Fin.ext (by simp [Nat.mod_eq_of_lt he])

/-- Eight pieces of length `n` one after the other, read at position `c`: piece `c / n` at `c % n`. -/
theorem ladder {α : Type*} {n : ℕ} (f : Fin 8 → Fin n → α) {c : ℕ} (hc : c < n * 8) (hn : 0 < n) :
    (if h : c < n then f 0 ⟨c, h⟩
      else if h : c - n < n then f 1 ⟨c - n, h⟩
      else if h : c - n - n < n then f 2 ⟨c - n - n, h⟩
      else if h : c - n - n - n < n then f 3 ⟨c - n - n - n, h⟩
      else if h : c - n - n - n - n < n then f 4 ⟨c - n - n - n - n, h⟩
      else if h : c - n - n - n - n - n < n then f 5 ⟨c - n - n - n - n - n, h⟩
      else if h : c - n - n - n - n - n - n < n then f 6 ⟨c - n - n - n - n - n - n, h⟩
      else f 7 ⟨c - n - n - n - n - n - n - n, by omega⟩)
      = f ⟨c / n, Nat.div_lt_of_lt_mul hc⟩ ⟨c % n, Nat.mod_lt _ hn⟩ := by
  split_ifs
  · exact piece f hc hn 0 _ _ (by simp)
  · exact piece f hc hn 1 _ _ (by simp; omega)
  · exact piece f hc hn 2 _ _ (by simp; omega)
  · exact piece f hc hn 3 _ _ (by simp; omega)
  · exact piece f hc hn 4 _ _ (by simp; omega)
  · exact piece f hc hn 5 _ _ (by simp; omega)
  · exact piece f hc hn 6 _ _ (by simp; omega)
  · exact piece f hc hn 7 _ _ (by simp; omega)

end Cert.Proof.Scalars
-- ==== Proof.Attend.lean ====
/-
The mathematics of one head over the reals: the weight of a key row for a query row, the causal weighted mean of the
value rows, and how the kernel's widened features and blocks of rows add up to it.
-/
module

public import proofs.«01_k».proof.Proof.Scalars

@[expose] public section

noncomputable section

namespace Cert.Proof.Attend

open Cert.Proof.Scalars

/-- The weight of key row `t` for query row `r`: the exponential of twice the product of the gates less the sum of
    the key gates. -/
def weight (q k : Fin 2048 → Fin 8 → ℝ) (r t : Fin 2048) : ℝ :=
  Real.exp (2 * (∑ d : Fin 8, q r d * k t d) - ∑ d : Fin 8, k t d)

/-- The sum over the key rows up to `r`, with their weights, of a value `x`. -/
def causalSum (q k : Fin 2048 → Fin 8 → ℝ) (x : Fin 2048 → ℝ) (r : Fin 2048) : ℝ :=
  ∑ t : Fin 2048, if t.val ≤ r.val then weight q k r t * x t else 0

/-- The causal weighted mean of column `e` of the values at query row `r`. -/
def attend (q k : Fin 2048 → Fin 8 → ℝ) (v : Fin 2048 → Fin 16 → ℝ) (r : Fin 2048) (e : Fin 16) : ℝ :=
  causalSum q k (fun t => v t e) r / causalSum q k (fun _ => 1) r

/-- The sum of the weights up to a row is positive: the row itself counts. -/
theorem causalSum_one_pos (q k : Fin 2048 → Fin 8 → ℝ) (r : Fin 2048) : 0 < causalSum q k (fun _ => 1) r := by
  refine Finset.sum_pos' (fun t _ => ?_) ⟨r, Finset.mem_univ r, ?_⟩
  · split
    · rw [mul_one]; exact (Real.exp_pos _).le
    · exact le_rfl
  · rw [if_pos le_rfl, mul_one]; exact Real.exp_pos _

/-- The query features: eight gates, two ones, six zeros. -/
def qFeat (q : Fin 2048 → Fin 8 → ℝ) (r : Fin 2048) (c : Fin 16) : ℝ :=
  if h : c.val < 8 then q r ⟨c.val, h⟩ else if c.val < 10 then 1 else 0

/-- The key features: eight gates scaled, minus their sum scaled, seven zeros. -/
def kFeat (k : Fin 2048 → Fin 8 → ℝ) (t : Fin 2048) (c : Fin 16) : ℝ :=
  if h : c.val < 8 then 2 * (Real.log 2)⁻¹ * k t ⟨c.val, h⟩
  else if c.val < 9 then -(Real.log 2)⁻¹ * ∑ d : Fin 8, k t d else 0

/-- The value features: sixteen gates, a one, fifteen zeros. -/
def vFeat (v : Fin 2048 → Fin 16 → ℝ) (t : Fin 2048) (e : Fin 32) : ℝ :=
  if h : e.val < 16 then v t ⟨e.val, h⟩ else if e.val < 17 then 1 else 0

/-- Two to the power of the features' product is the weight. -/
theorem pow_feat (q k : Fin 2048 → Fin 8 → ℝ) (r t : Fin 2048) :
    Real.rpow 2 (∑ c : Fin 16, qFeat q r c * kFeat k t c) = weight q k r t := by
  rw [weight, ← pow_two]
  congr 1
  rw [show (∑ c : Fin 16, qFeat q r c * kFeat k t c) = ∑ c : Fin (8 + 8), qFeat q r c * kFeat k t c from rfl,
    Fin.sum_univ_add]
  refine congrArg₂ (· + ·) ?_ ?_
  · rw [Finset.mul_sum]
    refine Finset.sum_congr rfl fun d _ => ?_
    simp only [qFeat, kFeat, Fin.val_castAdd, d.isLt, dif_pos, Fin.eta]
    ring
  · rw [Fin.sum_univ_succ]
    simp [qFeat, kFeat]
    exact Finset.sum_eq_zero fun x _ => if_neg (by omega)

/-- The term of key row `n` of the causal sum, for any natural number `n`. -/
def term (q k : Fin 2048 → Fin 8 → ℝ) (x : Fin 2048 → ℝ) (r : Fin 2048) (n : ℕ) : ℝ :=
  if h : n < 2048 then weight q k r ⟨n, h⟩ * x ⟨n, h⟩ else 0

/-- The causal sum at row `256 i + a` is the sum of the whole blocks before `i` and of the part of block `i`. -/
theorem causalSum_blocks (q k : Fin 2048 → Fin 8 → ℝ) (x : Fin 2048 → ℝ) (i : ℕ) (hi : i < 8) (a : Fin 256)
    (hr : 256 * i + a.val < 2048) :
    (∑ n ∈ Finset.range (256 * i), term q k x ⟨256 * i + a.val, hr⟩ n)
        + (∑ b : Fin 256, if b.val ≤ a.val then term q k x ⟨256 * i + a.val, hr⟩ (256 * i + b.val) else 0)
      = causalSum q k x ⟨256 * i + a.val, hr⟩ := by
  have ha := a.isLt
  have hsum : causalSum q k x ⟨256 * i + a.val, hr⟩
      = ∑ n ∈ Finset.range 2048, if n ≤ 256 * i + a.val then term q k x ⟨256 * i + a.val, hr⟩ n else 0 := by
    rw [causalSum, Finset.sum_range]
    refine Finset.sum_congr rfl fun t _ => ?_
    simp only [term, t.isLt, dif_pos, Fin.eta]
  have hcut : ∑ n ∈ Finset.range (256 * i + 256),
        (if n ≤ 256 * i + a.val then term q k x ⟨256 * i + a.val, hr⟩ n else 0)
      = ∑ n ∈ Finset.range 2048, if n ≤ 256 * i + a.val then term q k x ⟨256 * i + a.val, hr⟩ n else 0 := by
    refine Finset.sum_subset (fun n hn => ?_) (fun n _ hn => ?_)
    · rw [Finset.mem_range] at hn ⊢; omega
    · rw [Finset.mem_range] at hn; rw [if_neg (by omega)]
  rw [hsum, ← hcut, Finset.sum_range_add]
  refine congrArg₂ (· + ·) (Finset.sum_congr rfl fun n hn => ?_) ?_
  · rw [Finset.mem_range] at hn; rw [if_pos (by omega)]
  · rw [Finset.sum_range]
    refine Finset.sum_congr rfl fun b _ => if_congr (by omega) rfl rfl

end Cert.Proof.Attend
-- ==== Proof.Features.lean ====
/-
The kernel's features at an index, over the extended reals: the gates of queries, keys and values are real numbers,
and the widened query, key and value arrays hold the gates and their constant columns.
-/
module

public import proofs.«01_k».proof.Proof.Model
public import proofs.«01_k».proof.Proof.Attend

@[expose] public section

set_option maxRecDepth 16384

noncomputable section

namespace Cert.Proof.Features

open Idealize.ShloMosaic Idealize.SL.Sem Cert.KernelIdeal Cert.KernelIdeal.Gen Cert.Proof Cert.Proof.Scalars Cert.Proof.Attend

/-- The query gate of row `r`, column `c`. -/
def qGate (x0 : FVec Ideal S2048x512 .f32) (x1 : FVec Ideal S512x64 .f32) (r : Fin 2048) (c : Fin 64) : ℝ :=
  gate (∑ k : Fin 512, x0 (ix2 r k) * x1 (ix2 k c))

/-- The key gate of row `r`, column `c`. -/
def kGate (x0 : FVec Ideal S2048x512 .f32) (x2 : FVec Ideal S512x16 .f32) (r : Fin 2048) (c : Fin 16) : ℝ :=
  gate (∑ k : Fin 512, x0 (ix2 r k) * x2 (ix2 k c))

/-- The value gate of row `r`, column `c`. -/
def vGate (x0 : FVec Ideal S2048x512 .f32) (x3 : FVec Ideal S512x32 .f32) (r : Fin 2048) (c : Fin 32) : ℝ :=
  gate (∑ k : Fin 512, x0 (ix2 r k) * x3 (ix2 k c))

/-- The kernel's query gates are `qGate`. -/
theorem pay3_at (x0 : FVec Ideal S2048x512 .f32) (x1 : FVec Ideal S512x64 .f32) (r : Fin 2048) (c : Fin 64) :
    k0_pay3 (F := Ideal) x0 x1 (ix2 r c) = (qGate x0 x1 r c : EReal) := by
  pointwise [k0_pay3, k0_pay2]
  rw [qGate, ← logistic_gate, div_one]

/-- The kernel's key gates are `kGate`. -/
theorem pay4_at (x0 : FVec Ideal S2048x512 .f32) (x2 : FVec Ideal S512x16 .f32) (r : Fin 2048) (c : Fin 16) :
    k0_pay4 (F := Ideal) x0 x2 (ix2 r c) = (kGate x0 x2 r c : EReal) := by
  pointwise [k0_pay4, k0_pay2]
  rw [kGate, ← logistic_gate, div_one]

/-- The kernel's value gates are `vGate`. -/
theorem pay5_at (x0 : FVec Ideal S2048x512 .f32) (x3 : FVec Ideal S512x32 .f32) (r : Fin 2048) (c : Fin 32) :
    k0_pay5 (F := Ideal) x0 x3 (ix2 r c) = (vGate x0 x3 r c : EReal) := by
  pointwise [k0_pay5, k0_pay2]
  rw [vGate, ← logistic_gate, div_one]

/-- The query gates of head `h`, by row and bit. -/
def qBits (x0 : FVec Ideal S2048x512 .f32) (x1 : FVec Ideal S512x64 .f32) (h : Fin 8) (r : Fin 2048) (d : Fin 8) : ℝ :=
  qGate x0 x1 r ⟨8 * h.val + d.val, by omega⟩

/-- The key gates of group `g`, by row and bit. -/
def kBits (x0 : FVec Ideal S2048x512 .f32) (x2 : FVec Ideal S512x16 .f32) (g : Fin 2) (t : Fin 2048) (d : Fin 8) : ℝ :=
  kGate x0 x2 t ⟨8 * g.val + d.val, by omega⟩

/-- The value gates of group `g`, by row and bit. -/
def vBits (x0 : FVec Ideal S2048x512 .f32) (x3 : FVec Ideal S512x32 .f32) (g : Fin 2) (t : Fin 2048) (e : Fin 16) : ℝ :=
  vGate x0 x3 t ⟨16 * g.val + e.val, by omega⟩

/-- The kernel's query features are `qFeat` of the head's gates. -/
theorem queries_at (x0 : FVec Ideal S2048x512 .f32) (x1 : FVec Ideal S512x64 .f32) (h : Fin 8) (r : Fin 2048)
    (c : Fin 16) : Model.queries (F := Ideal) x0 x1 h (ix2 r c) = (qFeat (qBits x0 x1 h) r c : EReal) := by
  pointwise [Model.queries, k0_pay6, k0_pay7, pay3_at]
  unfold qFeat qBits
  by_cases h8 : c.val < 8
  · simp only [dif_pos h8]
  · simp only [dif_neg h8]
    by_cases h9 : c.val - 8 < 1
    · rw [dif_pos h9, if_pos (by omega), EReal.coe_one]
    · rw [dif_neg h9]
      by_cases h10 : c.val - 8 - 1 < 1
      · rw [dif_pos h10, if_pos (by omega), EReal.coe_one]
      · rw [dif_neg h10, if_neg (by omega), EReal.coe_zero]

/-- The constant that scales the bias, as a real number. -/
theorem neg_log2e : Named.named (F := Ideal) (φ := .f32) κ "neg_log2e" 0xBFB8AA3B#32 = ((-(Real.log 2)⁻¹ : ℝ) : EReal) :=
  IdealRules.named_const.ideal_named_scalar _ _ _ _ rfl

/-- The constant that scales the key gates, as a real number. -/
theorem two_log2e : Named.named (F := Ideal) (φ := .f32) κ "two_log2e" 0x4038AA3B#32 = ((2 * (Real.log 2)⁻¹ : ℝ) : EReal) :=
  IdealRules.named_const.ideal_named_scalar _ _ _ _ rfl

/-- The kernel's key features are `kFeat` of the group's gates: what the cast took from the bias is zero. -/
theorem keys_at (x0 : FVec Ideal S2048x512 .f32) (x2 : FVec Ideal S512x16 .f32) (g : Fin 2) (r : Fin 2048)
    (c : Fin 16) : Model.keys (F := Ideal) x0 x2 g (ix2 r c) = (kFeat (kBits x0 x2 g) r c : EReal) := by
  pointwise [Model.keys, Model.bias, Model.biasHi, Model.keyGates, k0_pay6, k0_pay7, pay4_at]
  have hs : ∑ x : Fin 8, (kGate x0 x2 r ⟨8 * g.val + x.val, by omega⟩ : EReal)
      = ((∑ x : Fin 8, kBits x0 x2 g r x : ℝ) : EReal) := sum_real _ _
  rw [hs, neg_log2e, two_log2e]
  unfold kFeat
  by_cases h8 : c.val < 8
  · simp only [dif_pos h8]
    exact (EReal.coe_mul _ _).symm
  · simp only [dif_neg h8]
    by_cases h9 : c.val - 8 < 1
    · rw [dif_pos h9, if_pos (by omega), EReal.coe_mul]
    · rw [dif_neg h9, if_neg (by omega), ← EReal.coe_mul, ← EReal.coe_sub, sub_self, EReal.coe_zero, dite_eq_ite, ite_self]

/-- The kernel's value features are `vFeat` of the group's gates. -/
theorem values_at (x0 : FVec Ideal S2048x512 .f32) (x3 : FVec Ideal S512x32 .f32) (g : Fin 2) (r : Fin 2048)
    (c : Fin 32) : Model.values (F := Ideal) x0 x3 g (ix2 r c) = (vFeat (vBits x0 x3 g) r c : EReal) := by
  pointwise [Model.values, k0_pay6, k0_pay8, pay5_at]
  unfold vFeat vBits
  by_cases h16 : c.val < 16
  · simp only [dif_pos h16]
  · simp only [dif_neg h16]
    by_cases h17 : c.val - 16 < 1
    · rw [dif_pos h17, if_pos (by omega), EReal.coe_one]
    · rw [dif_neg h17, if_neg (by omega), EReal.coe_zero]

end Cert.Proof.Features
-- ==== Proof.Head.lean ====
/-
One head of the kernel over the extended reals: a tile of weights, its product with a block of values, the running sum
over the blocks, and the normalised head, which is the causal weighted mean.
-/
module

public import proofs.«01_k».proof.Proof.Model
public import proofs.«01_k».proof.Proof.Attend

@[expose] public section

set_option maxRecDepth 16384

noncomputable section

namespace Cert.Proof.Head

open Idealize.ShloMosaic Idealize.SL.Sem Cert.KernelIdeal Cert.KernelIdeal.Gen Cert.Proof Cert.Proof.Scalars Cert.Proof.Attend

variable {q k : FVec Ideal S2048x16 .bf16} {v : FVec Ideal S2048x32 .f32}
  {qb kb : Fin 2048 → Fin 8 → ℝ} {vb : Fin 2048 → Fin 16 → ℝ}

/-- A tile of weights holds the weights of its rows. -/
theorem tile_at (hq : ∀ r c, q (ix2 r c) = (qFeat qb r c : EReal)) (hk : ∀ r c, k (ix2 r c) = (kFeat kb r c : EReal))
    (i j : Fin 8) (a b : Fin 256) :
    Model.tile q k i j (ix2 a b)
      = (weight qb kb ⟨256 * i.val + a.val, by omega⟩ ⟨256 * j.val + b.val, by omega⟩ : EReal) := by
  pointwise [Model.tile, Model.rows16, hq, hk]
  rw [← pow_feat, ← Ideal.exp2_coe, ← sum_real]
  rfl

/-- The product of a whole tile with its values: the sum of the block's terms. -/
theorem full_at (hq : ∀ r c, q (ix2 r c) = (qFeat qb r c : EReal)) (hk : ∀ r c, k (ix2 r c) = (kFeat kb r c : EReal))
    (hv : ∀ r c, v (ix2 r c) = (vFeat vb r c : EReal)) (i j : Fin 8) (a : Fin 256) (e : Fin 32) :
    Model.full q k v i j (ix2 a e)
      = ((∑ b : Fin 256, term qb kb (fun t => vFeat vb t e) ⟨256 * i.val + a.val, by omega⟩ (256 * j.val + b.val) : ℝ) : EReal) := by
  pointwise [Model.full, Model.rows32, tile_at hq hk, hv]
  rw [← sum_real]
  refine Finset.sum_congr rfl fun b _ => ?_
  rw [term, dif_pos (by omega), EReal.coe_mul]

/-- The product of the diagonal tile with its values: the terms up to the row. -/
theorem diag_at (hq : ∀ r c, q (ix2 r c) = (qFeat qb r c : EReal)) (hk : ∀ r c, k (ix2 r c) = (kFeat kb r c : EReal))
    (hv : ∀ r c, v (ix2 r c) = (vFeat vb r c : EReal)) (i : Fin 8) (a : Fin 256) (e : Fin 32) :
    Model.diag q k v i (ix2 a e)
      = ((∑ b : Fin 256, if b.val ≤ a.val then
          term qb kb (fun t => vFeat vb t e) ⟨256 * i.val + a.val, by omega⟩ (256 * i.val + b.val) else 0 : ℝ) : EReal) := by
  pointwise [Model.diag, k0_pay22, Model.rows32, tile_at hq hk, hv]
  rw [← sum_real]
  refine Finset.sum_congr rfl fun b _ => ?_
  rw [select_sle (by omega) (by omega)]
  by_cases h : b.val ≤ a.val
  · rw [if_pos h, if_pos h, term, dif_pos (by omega), EReal.coe_mul]
  · rw [if_neg h, if_neg h, EReal.coe_zero]

/-- The running sum over the first blocks: the sum of their rows' terms. -/
theorem before_at (hq : ∀ r c, q (ix2 r c) = (qFeat qb r c : EReal)) (hk : ∀ r c, k (ix2 r c) = (kFeat kb r c : EReal))
    (hv : ∀ r c, v (ix2 r c) = (vFeat vb r c : EReal)) (i : Fin 8) (n : ℕ) (hn : n < 8) (a : Fin 256) (e : Fin 32) :
    Model.before q k v i n hn (ix2 a e)
      = ((∑ t ∈ Finset.range (256 * (n + 1)), term qb kb (fun t => vFeat vb t e) ⟨256 * i.val + a.val, by omega⟩ t : ℝ) : EReal) := by
  induction n with
  | zero =>
    rw [Model.before, full_at hq hk hv, Finset.sum_range]
    simp only [Nat.mul_zero, Nat.zero_add, Nat.mul_one]
  | succ n ih =>
    rw [Model.before]
    pointwise [ih, full_at hq hk hv]
    rw [← EReal.coe_add, show 256 * (n + 1 + 1) = 256 * (n + 1) + 256 by ring, Finset.sum_range_add, Finset.sum_range,
      Finset.sum_range]

/-- The sum over all blocks of a query row: the causal sum of the value column. -/
theorem total_at (hq : ∀ r c, q (ix2 r c) = (qFeat qb r c : EReal)) (hk : ∀ r c, k (ix2 r c) = (kFeat kb r c : EReal))
    (hv : ∀ r c, v (ix2 r c) = (vFeat vb r c : EReal)) (i : Fin 8) (a : Fin 256) (e : Fin 32) :
    Model.total q k v i (ix2 a e)
      = (causalSum qb kb (fun t => vFeat vb t e) ⟨256 * i.val + a.val, by omega⟩ : EReal) := by
  obtain ⟨n, hn⟩ := i
  rw [← causalSum_blocks qb kb _ n hn a]
  cases n with
  | zero =>
    rw [Model.total, diag_at hq hk hv]
    simp only [Nat.mul_zero, Finset.range_zero, Finset.sum_empty, zero_add]
  | succ n =>
    rw [Model.total, EReal.coe_add]
    pointwise [before_at hq hk hv, diag_at hq hk hv]

/-- The normalised head is the causal weighted mean. -/
theorem head_at (hq : ∀ r c, q (ix2 r c) = (qFeat qb r c : EReal)) (hk : ∀ r c, k (ix2 r c) = (kFeat kb r c : EReal))
    (hv : ∀ r c, v (ix2 r c) = (vFeat vb r c : EReal)) (i : Fin 8) (a : Fin 256) (e : Fin 16) :
    Model.head q k v i (ix2 a e) = (attend qb kb vb ⟨256 * i.val + a.val, by omega⟩ e : EReal) := by
  have hn : (fun t => vFeat vb t ⟨e.val, by omega⟩) = fun t => vb t e := funext fun t => by
    rw [vFeat, dif_pos e.isLt]
  have hd : (fun t => vFeat vb t 16) = fun _ => 1 := funext fun t => rfl
  pointwise [Model.head, total_at hq hk hv]
  rw [hn, hd, div_real _ _ (causalSum_one_pos qb kb _).ne', attend]

end Cert.Proof.Head
-- ==== Proof.Body.lean ====
/-
The kernel body at an index, over the extended reals: the eight heads side by side, the mixed embeddings of all rows,
and the projected result.
-/
module

public import proofs.«01_k».proof.Proof.Features
public import proofs.«01_k».proof.Proof.Head

@[expose] public section

set_option maxRecDepth 16384

noncomputable section

namespace Cert.Proof.Body

open Idealize.ShloMosaic Idealize.SL.Sem Cert.KernelIdeal Cert.KernelIdeal.Gen Cert.Proof Cert.Proof.Scalars Cert.Proof.Attend
open Cert.Proof.Features

/-- The attention's output at row `r`, column `c`: head `c / 16`, group `c / 64`, value column `c % 16`. -/
def attention (x0 : FVec Ideal S2048x512 .f32) (x1 : FVec Ideal S512x64 .f32) (x2 : FVec Ideal S512x16 .f32)
    (x3 : FVec Ideal S512x32 .f32) (r : Fin 2048) (c : Fin 128) : ℝ :=
  attend (qBits x0 x1 ⟨c.val / 16, by omega⟩) (kBits x0 x2 ⟨c.val / 64, by omega⟩) (vBits x0 x3 ⟨c.val / 64, by omega⟩) r
    ⟨c.val % 16, Nat.mod_lt _ (by decide)⟩

/-- The kernel's heads at one query block are the attention's output at the block's rows. -/
theorem heads_at (x0 : FVec Ideal S2048x512 .f32) (x1 : FVec Ideal S512x64 .f32) (x2 : FVec Ideal S512x16 .f32)
    (x3 : FVec Ideal S512x32 .f32) (i : Fin 8) (a : Fin 256) (c : Fin 128) :
    Model.heads (F := Ideal) (Model.queries x0 x1) (Model.keys x0 x2) (Model.values x0 x3) i (ix2 a c)
      = (attention x0 x1 x2 x3 ⟨256 * i.val + a.val, by omega⟩ c : EReal) := by
  have hh : ∀ (h : Fin 8) (g : Fin 2) (e : Fin 16),
      Model.head (F := Ideal) (Model.queries x0 x1 h) (Model.keys x0 x2 g) (Model.values x0 x3 g) i (ix2 a e)
        = (attend (qBits x0 x1 h) (kBits x0 x2 g) (vBits x0 x3 g) ⟨256 * i.val + a.val, by omega⟩ e : EReal) :=
    fun h g e => Head.head_at (queries_at x0 x1 h) (keys_at x0 x2 g) (values_at x0 x3 g) i a e
  pointwise [Model.heads, hh]
  refine (ladder (fun h e => (attend (qBits x0 x1 h) (kBits x0 x2 ⟨h.val / 4, by omega⟩) (vBits x0 x3 ⟨h.val / 4, by omega⟩)
    ⟨256 * i.val + a.val, by omega⟩ e : EReal)) (n := 16) c.isLt (by decide)).trans ?_
  simp only [attention, Nat.div_div_eq_div_mul, Nat.reduceMul]

/-- The mixed embeddings of one query block. -/
theorem mix_at (e0 e1 : FVec Ideal S1x128 .f32) (o : FVec Ideal S256x128 .f32) (a : Fin 256) (c : Fin 128) :
    Model.mix (F := Ideal) e0 e1 o (ix2 a c) = e0 (ix2 0 c) * (1 - o (ix2 a c)) + e1 (ix2 0 c) * o (ix2 a c) := by
  pointwise [Model.mix]

/-- The mixed embeddings of all rows: row `r` is row `r % 256` of block `r / 256`. -/
theorem mixed_at (e0 e1 : FVec Ideal S1x128 .f32) (o : Fin 8 → FVec Ideal S256x128 .f32) (r : Fin 2048) (c : Fin 128) :
    Model.mixed (F := Ideal) e0 e1 o (ix2 r c)
      = e0 (ix2 0 c) * (1 - o ⟨r.val / 256, by omega⟩ (ix2 ⟨r.val % 256, by omega⟩ c))
        + e1 (ix2 0 c) * o ⟨r.val / 256, by omega⟩ (ix2 ⟨r.val % 256, by omega⟩ c) := by
  pointwise [Model.mixed, mix_at]
  exact ladder (fun i a => e0 (ix2 0 c) * (1 - o i (ix2 a c)) + e1 (ix2 0 c) * o i (ix2 a c)) (n := 256) r.isLt (by decide)

/-- The kernel body at row `r`, column `n`: the mixed embeddings of the row against column `n` of the projection. -/
theorem body_at (x0 : FVec Ideal S2048x512 .f32) (x1 : FVec Ideal S512x64 .f32) (x2 : FVec Ideal S512x16 .f32)
    (x3 : FVec Ideal S512x32 .f32) (x4 : FVec Ideal S128x512 .f32) (x5 x6 : FVec Ideal S1x128 .f32)
    (r : Fin 2048) (n : Fin 512) :
    Model.body (F := Ideal) x0 x1 x2 x3 x4 x5 x6 (ix2 r n)
      = ∑ c : Fin 128, (x5 (ix2 0 c) * (1 - (attention x0 x1 x2 x3 r c : EReal))
          + x6 (ix2 0 c) * (attention x0 x1 x2 x3 r c : EReal)) * x4 (ix2 c n) := by
  have hr : (⟨256 * (r.val / 256) + r.val % 256, by omega⟩ : Fin 2048) = r := Fin.ext (Nat.div_add_mod _ _)
  pointwise [Model.body, k0_pay1, mixed_at, heads_at, hr]

end Cert.Proof.Body
-- ==== Proof.RefModel.lean ====
/-
The reference's result as a structured term.

The generated run of the reference states its result as one composed term of the arguments. This module names
the parts of that term: the gates of queries, keys and values, the masked scores, their row maximum, the shifted
exponentials, the attention product, the mixed embeddings. `res_eq` states that the generated term is the
assembled one.
-/
module

public import proofs.«01_k».proof.Proof.Gen.ReferenceIdeal.Run

@[expose] public section

set_option maxRecDepth 16384

noncomputable section

namespace Cert.Proof.Ref

open Idealize.ShloMosaic Idealize.ShloMosaic.TcCoe Idealize.SL.Sem Cert.ReferenceIdeal Cert.ReferenceIdeal.Gen

variable {F : FTy → Type} [FloatOps F]

/-- The array of ones that the eight-column gates use. -/
def ones8 : FVec F S1x8x2048x8 .f32 := broadcastInDim S1x8x2048x8 ![] bcast_S_S1x8x2048x8 (constant S_ .f32 0x3F800000#32)

/-- The array of ones that the sixteen-column gates use. -/
def ones16 : FVec F S1x8x2048x16 .f32 := broadcastInDim S1x8x2048x16 ![] bcast_S_S1x8x2048x16 (constant S_ .f32 0x3F800000#32)

/-- The logistic function of `z` over one, eight columns per head. -/
def gate8 (z : FVec F S1x8x2048x8 .f32) : FVec F S1x8x2048x8 .f32 :=
  Host.divf ones8 (addf ones8 (Host.exp (Host.negf (Host.divf z ones8))))

/-- The logistic function of `z` over one, sixteen columns per head. -/
def gate16 (z : FVec F S1x8x2048x16 .f32) : FVec F S1x8x2048x16 .f32 :=
  Host.divf ones16 (addf ones16 (Host.exp (Host.negf (Host.divf z ones16))))

/-- The query gates, by head, row and bit. -/
def q (a0 : FVec F S1x2048x512 .f32) (a1 : FVec F S512x64 .f32) : FVec F S1x8x2048x8 .f32 :=
  gate8 (transpose S1x8x2048x8 [0, 2, 1, 3] (shapeCast S1x2048x8x8
    (Host.dotGeneral dot_S1x2048x512_S512x64_S1x2048x64_2_0_01_1_n_n none a0 a1) shapeCasts_S1x2048x64_S1x2048x8x8)
    transposes_S1x2048x8x8_S1x8x2048x8_0_2_1_3)

/-- The key gates, each group repeated for its four heads. -/
def k (a0 : FVec F S1x2048x512 .f32) (a2 : FVec F S512x16 .f32) : FVec F S1x8x2048x8 .f32 :=
  gate8 (shapeCast S1x8x2048x8 (broadcastInDim S1x2x4x2048x8 ![0, 1, 2, 3, 4] bcast_S1x2x1x2048x8_S1x2x4x2048x8_0_1_2_3_4
    (broadcastInDim S1x2x1x2048x8 ![0, 1, 3, 4] bcast_S1x2x2048x8_S1x2x1x2048x8_0_1_3_4
      (transpose S1x2x2048x8 [0, 2, 1, 3] (shapeCast S1x2048x2x8
        (Host.dotGeneral dot_S1x2048x512_S512x16_S1x2048x16_2_0_01_1_n_n none a0 a2) shapeCasts_S1x2048x16_S1x2048x2x8)
        transposes_S1x2048x2x8_S1x2x2048x8_0_2_1_3))) shapeCasts_S1x2x4x2048x8_S1x8x2048x8)

/-- The value gates, each group repeated for its four heads. -/
def v (a0 : FVec F S1x2048x512 .f32) (a3 : FVec F S512x32 .f32) : FVec F S1x8x2048x16 .f32 :=
  gate16 (shapeCast S1x8x2048x16 (broadcastInDim S1x2x4x2048x16 ![0, 1, 2, 3, 4] bcast_S1x2x1x2048x16_S1x2x4x2048x16_0_1_2_3_4
    (broadcastInDim S1x2x1x2048x16 ![0, 1, 3, 4] bcast_S1x2x2048x16_S1x2x1x2048x16_0_1_3_4
      (transpose S1x2x2048x16 [0, 2, 1, 3] (shapeCast S1x2048x2x16
        (Host.dotGeneral dot_S1x2048x512_S512x32_S1x2048x32_2_0_01_1_n_n none a0 a3) shapeCasts_S1x2048x32_S1x2048x2x16)
        transposes_S1x2048x2x16_S1x2x2048x16_0_2_1_3))) shapeCasts_S1x2x4x2048x16_S1x8x2048x16)

/-- The scores: the agreement of ones plus the agreement of zeros. -/
def scores (Q K : FVec F S1x8x2048x8 .f32) : FVec F S1x8x2048x2048 .f32 :=
  addf (Host.dotGeneral dot_S1x8x2048x8_S1x8x2048x8_S1x8x2048x2048_3_3_2_2_01_01 none Q K)
    (Host.dotGeneral dot_S1x8x2048x8_S1x8x2048x8_S1x8x2048x2048_3_3_2_2_01_01 none (subf ones8 Q) (subf ones8 K))

/-- The causal mask: one where the column is at most the row. -/
def causal : IVec S2048x2048 1 :=
  select (cmpi .sge (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 1#1))
    (broadcastInDim S2048x2048 ![] bcast_S_S2048x2048 (constantI S_ 1 0#1))

/-- The scores with the columns after the row at minus infinity. -/
def masked (s : FVec F S1x8x2048x2048 .f32) : FVec F S1x8x2048x2048 .f32 :=
  select (broadcastInDim S1x8x2048x2048 ![0, 1, 2, 3] bcast_S1x1x2048x2048_S1x8x2048x2048_0_1_2_3
      (broadcastInDim S1x1x2048x2048 ![2, 3] bcast_S2048x2048_S1x1x2048x2048_2_3 causal)) s
    (broadcastInDim S1x8x2048x2048 ![] bcast_S_S1x8x2048x2048 (id (constant S_ .f32 0xFF800000#32)))

/-- A row quantity repeated over the columns. -/
def spread (r : FVec F S1x8x2048 .f32) : FVec F S1x8x2048x2048 .f32 :=
  broadcastInDim S1x8x2048x2048 ![0, 1, 2, 3] bcast_S1x8x2048x1_S1x8x2048x2048_0_1_2_3
    (broadcastInDim S1x8x2048x1 ![0, 1, 2] bcast_S1x8x2048_S1x8x2048x1_0_1_2 r)

/-- The row maximum. -/
def rowMax (s : FVec F S1x8x2048x2048 .f32) : FVec F S1x8x2048 .f32 :=
  maximumf (broadcastInDim S1x8x2048 ![] bcast_S_S1x8x2048 (constant S_ .f32 0xFF800000#32))
    (Host.reduce FloatOps.maximumf s (constant S_ .f32 0xFF800000#32) reducesTo_S1x8x2048x2048_S1x8x2048_d3 h_S_)

/-- The exponentials of the scores less their row maximum. -/
def expo (s : FVec F S1x8x2048x2048 .f32) : FVec F S1x8x2048x2048 .f32 := Host.exp (subf s (spread (rowMax s)))

/-- The softmax along the columns. -/
def soft (e : FVec F S1x8x2048x2048 .f32) : FVec F S1x8x2048x2048 .f32 :=
  Host.divf e (spread (Host.reduceAdd e (constant S_ .f32 0x00000000#32) reducesTo_S1x8x2048x2048_S1x8x2048_d3 h_S_))

/-- The attention product with the value gates. -/
def att (p : FVec F S1x8x2048x2048 .f32) (V : FVec F S1x8x2048x16 .f32) : FVec F S1x8x2048x16 .f32 :=
  Host.dotGeneral dot_S1x8x2048x2048_S1x8x2048x16_S1x8x2048x16_3_2_2_3_01_01 none p V

/-- The two embeddings mixed by the attention's output. -/
def mix (a5 a6 : FVec F S128 .f32) (o : FVec F S1x8x2048x16 .f32) : FVec F S1x8x2048x16 .f32 :=
  addf (mulf (broadcastInDim S1x8x2048x16 ![0, 1, 2, 3] bcast_S1x8x1x16_S1x8x2048x16_0_1_2_3
        (shapeCast S1x8x1x16 a5 shapeCasts_S128_S1x8x1x16)) (subf ones16 o))
    (mulf (broadcastInDim S1x8x2048x16 ![0, 1, 2, 3] bcast_S1x8x1x16_S1x8x2048x16_0_1_2_3
        (shapeCast S1x8x1x16 a6 shapeCasts_S128_S1x8x1x16)) o)

/-- The output projection of the mixed embeddings. -/
def proj (x : FVec F S1x8x2048x16 .f32) (a4 : FVec F S128x512 .f32) : FVec F S1x2048x512 .f32 :=
  Host.dotGeneral dot_S1x2048x128_S128x512_S1x2048x512_2_0_01_1_n_n none
    (shapeCast S1x2048x128 (transpose S1x2048x8x16 [0, 2, 1, 3] x transposes_S1x8x2048x16_S1x2048x8x16_0_2_1_3)
      shapeCasts_S1x2048x8x16_S1x2048x128) a4

/-- The attention's output, from the arguments. -/
def out (a0 : FVec F S1x2048x512 .f32) (a1 : FVec F S512x64 .f32) (a2 : FVec F S512x16 .f32) (a3 : FVec F S512x32 .f32) :
    FVec F S1x8x2048x16 .f32 :=
  att (soft (expo (masked (scores (q a0 a1) (k a0 a2))))) (v a0 a3)

/-- The reference, from its seven arguments. -/
def model (a0 : FVec F S1x2048x512 .f32) (a1 : FVec F S512x64 .f32) (a2 : FVec F S512x16 .f32) (a3 : FVec F S512x32 .f32)
    (a4 : FVec F S128x512 .f32) (a5 a6 : FVec F S128 .f32) : FVec F S1x2048x512 .f32 :=
  proj (mix a5 a6 (out a0 a1 a2 a3)) a4

set_option maxHeartbeats 4000000 in
/-- The reference's composed term is the structured one. -/
theorem res_eq (m : (ℓ : Loc nD τ sig) → Buf (Elt F) ℓ) (c : Dev nD) :
    Value.res_out0 m c = model (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

end Cert.Proof.Ref
-- ==== Proof.RowMax.lean ====
/-
A maximum over the indices that drop to one result index is a real number, when every value is below infinity and one
of them is above minus infinity.
-/
module

public import Idealize.ShloMosaic.Lib.Pointwise

@[expose] public section

noncomputable section

namespace Cert.Proof.RowMax

open Idealize.ShloMosaic

/-- A host reduction by maximum is real at `j`, when no value is infinite above and one value dropping to `j` is real. -/
theorem reduce_max_real {s t u : Shape} {axes : List (Fin s.rank)} (x : FVec Ideal s .f32) (init : FVec Ideal u .f32)
    (h : s.ReducesTo axes t) (hu : 0 < u.numel) (j : t.Idx) (hinit : init (Shape.Idx.first hu) = ⊥) (hx : ∀ i, x i ≠ ⊤)
    (i₀ : s.Idx) (hi₀ : h.drop i₀ = j) (hne : x i₀ ≠ ⊥) :
    ∃ M : ℝ, Host.reduce (FloatOps.maximumf (F := Ideal) (φ := .f32)) x init h hu j = (M : EReal) := by
  have e : Host.reduce (FloatOps.maximumf (F := Ideal) (φ := .f32)) x init h hu j
      = (Finset.univ.filter fun i => h.drop i = j).fold max (init (Shape.Idx.first hu)) (fun i => (x i : EReal)) :=
    Host.reduce_eq_fold (α := EReal) max x init h hu j
  rw [e]
  have htop : (Finset.univ.filter fun i => h.drop i = j).fold max (init (Shape.Idx.first hu)) (fun i => (x i : EReal)) < ⊤ := by
    rw [Finset.fold_max_lt]
    exact ⟨hinit ▸ bot_lt_top, fun i _ => lt_top_iff_ne_top.mpr (hx i)⟩
  have hbot : ⊥ < (Finset.univ.filter fun i => h.drop i = j).fold max (init (Shape.Idx.first hu)) (fun i => (x i : EReal)) := by
    rw [Finset.lt_fold_max]
    exact .inr ⟨i₀, Finset.mem_filter.mpr ⟨Finset.mem_univ _, hi₀⟩, bot_lt_iff_ne_bot.mpr hne⟩
  exact ⟨_, (EReal.coe_toReal htop.ne hbot.ne').symm⟩

/-- The word of minus infinity. -/
theorem neg_inf : Ideal.ofBits .f32 0xFF800000#32 = ⊥ := by
  simp [Ideal.ofBits, Ideal.ieee]

/-- The same with a further maximum against minus infinity. -/
theorem maximum_reduce_real {s t u : Shape} {axes : List (Fin s.rank)} (b : FVec Ideal t .f32) (x : FVec Ideal s .f32)
    (init : FVec Ideal u .f32) (h : s.ReducesTo axes t) (hu : 0 < u.numel) (j : t.Idx) (hb : b j = ⊥)
    (hinit : init (Shape.Idx.first hu) = ⊥) (hx : ∀ i, x i ≠ ⊤) (i₀ : s.Idx) (hi₀ : h.drop i₀ = j) (hne : x i₀ ≠ ⊥) :
    ∃ M : ℝ, maximumf b (Host.reduce (FloatOps.maximumf (F := Ideal) (φ := .f32)) x init h hu) j = (M : EReal) := by
  obtain ⟨M, hM⟩ := reduce_max_real x init h hu j hinit hx i₀ hi₀ hne
  refine ⟨M, ?_⟩
  rw [maximumf_apply, Ideal.maximumf_def, hM, hb]
  exact max_eq_right bot_le

end Cert.Proof.RowMax
-- ==== Proof.RefAt.lean ====
/-
The reference at an index, over the extended reals: the gates, the scores, the masked softmax and the attention's
output, which is the causal weighted mean, then the mixed embeddings and the projection.
-/
module

public import proofs.«01_k».proof.Proof.RefModel
public import proofs.«01_k».proof.Proof.Attend
public import proofs.«01_k».proof.Proof.RowMax

@[expose] public section

set_option maxRecDepth 16384

noncomputable section

namespace Cert.Proof.RefAt

open Idealize.ShloMosaic Idealize.SL.Sem Cert.ReferenceIdeal Cert.ReferenceIdeal.Gen Cert.Proof Cert.Proof.Scalars Cert.Proof.Attend

/-- The reference's query gates: head `h` takes the columns from `8 h`. -/
theorem q_at (a0 : FVec Ideal S1x2048x512 .f32) (a1 : FVec Ideal S512x64 .f32) (h : Fin 8) (r : Fin 2048) (d : Fin 8) :
    Ref.q (F := Ideal) a0 a1 (ix4 0 h r d)
      = (gate (∑ k : Fin 512, a0 (ix3 0 r k) * a1 (ix2 k ⟨8 * h.val + d.val, by omega⟩)) : EReal) := by
  pointwise [Ref.q, Ref.gate8, Ref.ones8]
  simp only [div_one, ← logistic_gate, Ideal.logistic, Nat.mul_comm 8]

/-- The reference's key gates: head `h` takes the columns of its group, from `8 (h / 4)`. -/
theorem k_at (a0 : FVec Ideal S1x2048x512 .f32) (a2 : FVec Ideal S512x16 .f32) (h : Fin 8) (r : Fin 2048) (d : Fin 8) :
    Ref.k (F := Ideal) a0 a2 (ix4 0 h r d)
      = (gate (∑ k : Fin 512, a0 (ix3 0 r k) * a2 (ix2 k ⟨8 * (h.val / 4) + d.val, by omega⟩)) : EReal) := by
  pointwise [Ref.k, Ref.gate8, Ref.ones8]
  simp only [div_one, ← logistic_gate, Ideal.logistic, Nat.mul_comm 8]

/-- The reference's value gates: head `h` takes the columns of its group, from `16 (h / 4)`. -/
theorem v_at (a0 : FVec Ideal S1x2048x512 .f32) (a3 : FVec Ideal S512x32 .f32) (h : Fin 8) (r : Fin 2048) (e : Fin 16) :
    Ref.v (F := Ideal) a0 a3 (ix4 0 h r e)
      = (gate (∑ k : Fin 512, a0 (ix3 0 r k) * a3 (ix2 k ⟨16 * (h.val / 4) + e.val, by omega⟩)) : EReal) := by
  pointwise [Ref.v, Ref.gate16, Ref.ones16]
  simp only [div_one, ← logistic_gate, Ideal.logistic, Nat.mul_comm 16]

variable {Q K : FVec Ideal S1x8x2048x8 .f32} {V : FVec Ideal S1x8x2048x16 .f32}
  {qb kb : Fin 8 → Fin 2048 → Fin 8 → ℝ} {vb : Fin 8 → Fin 2048 → Fin 16 → ℝ}

/-- The exponent of the weight. -/
def exponent (qb kb : Fin 8 → Fin 2048 → Fin 8 → ℝ) (h : Fin 8) (r t : Fin 2048) : ℝ :=
  2 * (∑ d : Fin 8, qb h r d * kb h t d) - ∑ d : Fin 8, kb h t d

/-- The part of a row's scores that no column changes. -/
def offset (qb : Fin 8 → Fin 2048 → Fin 8 → ℝ) (h : Fin 8) (r : Fin 2048) : ℝ := 8 - ∑ d : Fin 8, qb h r d

/-- A score is the weight's exponent plus the row's offset. -/
theorem scores_at (hQ : ∀ h r d, Q (ix4 0 h r d) = (qb h r d : EReal)) (hK : ∀ h r d, K (ix4 0 h r d) = (kb h r d : EReal))
    (h : Fin 8) (r t : Fin 2048) :
    Ref.scores Q K (ix4 0 h r t) = ((exponent qb kb h r t + offset qb h r : ℝ) : EReal) := by
  pointwise [Ref.scores, Ref.ones8, hQ, hK]
  have e1 : ∀ d : Fin 8, (qb h r d : EReal) * (kb h t d : EReal) = ((qb h r d * kb h t d : ℝ) : EReal) :=
    fun d => (EReal.coe_mul _ _).symm
  have e2 : ∀ d : Fin 8, (1 - (qb h r d : EReal)) * (1 - (kb h t d : EReal))
      = (((1 - qb h r d) * (1 - kb h t d) : ℝ) : EReal) := fun d => by
    rw [EReal.coe_mul, EReal.coe_sub, EReal.coe_sub, EReal.coe_one]
  simp only [e1, e2, sum_real, ← EReal.coe_add]
  congr 1
  have e3 : ∑ d : Fin 8, (1 - qb h r d) * (1 - kb h t d)
      = 8 - ∑ d : Fin 8, qb h r d - ∑ d : Fin 8, kb h t d + ∑ d : Fin 8, qb h r d * kb h t d := by
    have : ∀ d : Fin 8, (1 - qb h r d) * (1 - kb h t d) = 1 - qb h r d - kb h t d + qb h r d * kb h t d := fun d => by ring
    simp only [this, Finset.sum_add_distrib, Finset.sum_sub_distrib]
    simp
  rw [e3, exponent, offset]
  ring

/-- The masked scores: minus infinity in the columns after the row. -/
theorem masked_at (s : FVec Ideal S1x8x2048x2048 .f32) (h : Fin 8) (r t : Fin 2048) :
    Ref.masked s (ix4 0 h r t) = if t.val ≤ r.val then s (ix4 0 h r t) else ⊥ := by
  pointwise [Ref.masked, Ref.causal]
  rw [select_causal (by omega) (by omega)]
  exact if_congr Iff.rfl rfl RowMax.neg_inf

/-- The array of minus infinities that the row maximum starts from. -/
theorem floor_at (j : S1x8x2048.Idx) :
    broadcastInDim S1x8x2048 ![] bcast_S_S1x8x2048 (constant (F := Ideal) S_ .f32 0xFF800000#32) j = ⊥ := RowMax.neg_inf

/-- The row maximum's initial value. -/
theorem init_at : constant (F := Ideal) S_ .f32 0xFF800000#32 (Shape.Idx.first h_S_) = ⊥ := RowMax.neg_inf

/-- Dropping the columns of a score's index leaves its row. -/
theorem drop_at (h : Fin 8) (r : Fin 2048) :
    reducesTo_S1x8x2048x2048_S1x8x2048_d3.drop (ix4 0 h r r) = (ix3 0 h r : S1x8x2048.Idx) :=
  (Shape.ReducesTo.fiber_r4_a3 _ _ _).mpr ⟨r, rfl⟩

/-- The row maximum is real when no score is infinite above and the row's own column is real. -/
theorem rowMax_of_real (s : FVec Ideal S1x8x2048x2048 .f32) (hs : ∀ i, s i ≠ ⊤) (h : Fin 8) (r : Fin 2048)
    (h' : s (ix4 0 h r r) ≠ ⊥) : ∃ M : ℝ, Ref.rowMax s (ix3 0 h r) = (M : EReal) := by
  unfold Ref.rowMax
  exact RowMax.maximum_reduce_real _ s (constant S_ .f32 0xFF800000#32) reducesTo_S1x8x2048x2048_S1x8x2048_d3 h_S_
    (ix3 0 h r) (floor_at _) init_at hs (ix4 0 h r r) (drop_at h r) h'

/-- The row maximum of masked real scores is real: the row's own column is not masked. -/
theorem rowMax_real (s : FVec Ideal S1x8x2048x2048 .f32) (sr : Fin 8 → Fin 2048 → Fin 2048 → ℝ)
    (hs : ∀ h r t, s (ix4 0 h r t) = (sr h r t : EReal)) (h : Fin 8) (r : Fin 2048) :
    ∃ M : ℝ, Ref.rowMax (Ref.masked s) (ix3 0 h r) = (M : EReal) := by
  refine rowMax_of_real _ (fun i => ?_) h r ?_
  · idx_vars i
    obtain rfl : i0 = 0 := Subsingleton.elim _ _
    rw [masked_at, hs]
    split
    · exact EReal.coe_ne_top _
    · exact bot_ne_top
  · rw [masked_at, if_pos le_rfl, hs]
    exact EReal.coe_ne_bot _

/-- The shifted exponentials: the weight times one positive number of the row, or zero in a masked column. -/
theorem expo_at (s : FVec Ideal S1x8x2048x2048 .f32)
    (hs : ∀ h r t, s (ix4 0 h r t) = ((exponent qb kb h r t + offset qb h r : ℝ) : EReal)) (h : Fin 8) (r : Fin 2048) (M : ℝ)
    (hM : Ref.rowMax (Ref.masked s) (ix3 0 h r) = (M : EReal)) (t : Fin 2048) :
    Ref.expo (Ref.masked s) (ix4 0 h r t)
      = (((if t.val ≤ r.val then weight (qb h) (kb h) r t else 0) * Real.exp (offset qb h r - M) : ℝ) : EReal) := by
  pointwise [Ref.expo, Ref.spread, masked_at, hM, hs]
  by_cases ht : t.val ≤ r.val
  · rw [if_pos ht, if_pos ht, ← EReal.coe_sub, Ideal.exp_coe, weight, ← Real.exp_add]
    refine congrArg (fun x : ℝ => ((Real.exp x : ℝ) : EReal)) ?_
    rw [exponent]
    ring
  · rw [if_neg ht, if_neg ht, EReal.bot_sub, Ideal.exp_bot, zero_mul, EReal.coe_zero]

/-- The attention's output of the reference is the causal weighted mean. -/
theorem att_at (s : FVec Ideal S1x8x2048x2048 .f32)
    (hs : ∀ h r t, s (ix4 0 h r t) = ((exponent qb kb h r t + offset qb h r : ℝ) : EReal))
    (hV : ∀ h r e, V (ix4 0 h r e) = (vb h r e : EReal)) (h : Fin 8) (r : Fin 2048) (e : Fin 16) :
    Ref.att (Ref.soft (Ref.expo (Ref.masked s))) V (ix4 0 h r e) = (attend (qb h) (kb h) (vb h) r e : EReal) := by
  obtain ⟨M, hM⟩ := rowMax_real s _ hs h r
  have hz : Real.exp (offset qb h r - M) ≠ 0 := (Real.exp_pos _).ne'
  have hsum : ∀ x : Fin 2048 → ℝ, ∑ t : Fin 2048, (if t.val ≤ r.val then weight (qb h) (kb h) r t else 0) * x t
      = causalSum (qb h) (kb h) x r := fun x => by
    rw [causalSum]
    refine Finset.sum_congr rfl fun t _ => ?_
    rw [ite_mul, zero_mul]
  have hone : ∑ t : Fin 2048, (if t.val ≤ r.val then weight (qb h) (kb h) r t else 0) = causalSum (qb h) (kb h) (fun _ => 1) r := by
    rw [← hsum]
    simp only [mul_one]
  have hpos : (∑ t : Fin 2048, (if t.val ≤ r.val then weight (qb h) (kb h) r t else 0) * Real.exp (offset qb h r - M)) ≠ 0 := by
    rw [← Finset.sum_mul, hone]
    exact mul_ne_zero (causalSum_one_pos _ _ _).ne' hz
  pointwise [Ref.att, Ref.soft, Ref.spread, expo_at s hs h r M hM, hV]
  rw [attend, ← hsum, ← hone, ← mean_scaled _ _ _ _ hz]
  simp only [sum_real, div_real _ _ hpos, ← EReal.coe_mul]

/-- The mixed embeddings of the reference. -/
theorem mix_at (a5 a6 : FVec Ideal S128 .f32) (o : FVec Ideal S1x8x2048x16 .f32) (h : Fin 8) (r : Fin 2048) (e : Fin 16) :
    Ref.mix a5 a6 o (ix4 0 h r e)
      = a5 (ix1 ⟨h.val * 16 + e.val, by omega⟩) * (1 - o (ix4 0 h r e)) + a6 (ix1 ⟨h.val * 16 + e.val, by omega⟩) * o (ix4 0 h r e) := by
  pointwise [Ref.mix, Ref.ones16]

/-- The projection of the reference: column `c` of a row is head `c / 16`, place `c % 16`. -/
theorem proj_at (x : FVec Ideal S1x8x2048x16 .f32) (a4 : FVec Ideal S128x512 .f32) (r : Fin 2048) (n : Fin 512) :
    Ref.proj x a4 (ix3 0 r n)
      = ∑ c : Fin 128, x (ix4 0 ⟨c.val / 16, by omega⟩ r ⟨c.val % 16, Nat.mod_lt _ (by decide)⟩) * a4 (ix2 c n) := by
  pointwise [Ref.proj]

end Cert.Proof.RefAt
-- ==== Proof.Equal.lean ====
/-
The equation: what the kernel body stores at row `r`, column `n` is the reference's value there, for arguments that the
body reads with their unit axes moved.
-/
module

public import proofs.«01_k».proof.Proof.Body
public import proofs.«01_k».proof.Proof.RefAt

@[expose] public section

set_option maxRecDepth 16384

noncomputable section

namespace Cert.Proof.Equal

open Idealize.ShloMosaic Idealize.SL.Sem Cert.Proof Cert.Proof.Scalars Cert.Proof.Attend Cert.Proof.Features

/-- The reference's attention output at head `c / 16`, place `c % 16` is the kernel's at column `c`. -/
theorem out_at (a0 : FVec Ideal Cert.ReferenceIdeal.S1x2048x512 .f32) (a1 : FVec Ideal Cert.ReferenceIdeal.S512x64 .f32)
    (a2 : FVec Ideal Cert.ReferenceIdeal.S512x16 .f32) (a3 : FVec Ideal Cert.ReferenceIdeal.S512x32 .f32)
    (x0 : FVec Ideal Cert.KernelIdeal.S2048x512 .f32) (h0 : ∀ (r : Fin 2048) (k : Fin 512), x0 (ix2 r k) = a0 (ix3 0 r k))
    (r : Fin 2048) (c : Fin 128) :
    Ref.out (F := Ideal) a0 a1 a2 a3 (ix4 0 ⟨c.val / 16, by omega⟩ r ⟨c.val % 16, Nat.mod_lt _ (by decide)⟩)
      = (Body.attention x0 a1 a2 a3 r c : EReal) := by
  have hq : ∀ h r d, Ref.q (F := Ideal) a0 a1 (ix4 0 h r d) = (qBits x0 a1 h r d : EReal) := fun h r d => by
    rw [RefAt.q_at, qBits, qGate]
    simp only [h0]
  have hk : ∀ h r d, Ref.k (F := Ideal) a0 a2 (ix4 0 h r d) = (kBits x0 a2 ⟨h.val / 4, by omega⟩ r d : EReal) := fun h r d => by
    rw [RefAt.k_at, kBits, kGate]
    simp only [h0]
  have hv : ∀ h r e, Ref.v (F := Ideal) a0 a3 (ix4 0 h r e) = (vBits x0 a3 ⟨h.val / 4, by omega⟩ r e : EReal) := fun h r e => by
    rw [RefAt.v_at, vBits, vGate]
    simp only [h0]
  rw [Ref.out, RefAt.att_at _ (fun h r t => RefAt.scores_at hq hk h r t) hv, Body.attention]
  simp only [Nat.div_div_eq_div_mul, Nat.reduceMul]

/-- What the body stores is the reference's value. -/
theorem body_eq_model (a0 : FVec Ideal Cert.ReferenceIdeal.S1x2048x512 .f32) (a1 : FVec Ideal Cert.ReferenceIdeal.S512x64 .f32)
    (a2 : FVec Ideal Cert.ReferenceIdeal.S512x16 .f32) (a3 : FVec Ideal Cert.ReferenceIdeal.S512x32 .f32)
    (a4 : FVec Ideal Cert.ReferenceIdeal.S128x512 .f32) (a5 a6 : FVec Ideal Cert.ReferenceIdeal.S128 .f32)
    (x0 : FVec Ideal Cert.KernelIdeal.S2048x512 .f32) (x5 x6 : FVec Ideal Cert.KernelIdeal.S1x128 .f32)
    (h0 : ∀ (r : Fin 2048) (k : Fin 512), x0 (ix2 r k) = a0 (ix3 0 r k))
    (h5 : ∀ c : Fin 128, x5 (ix2 0 c) = a5 (ix1 c)) (h6 : ∀ c : Fin 128, x6 (ix2 0 c) = a6 (ix1 c))
    (r : Fin 2048) (n : Fin 512) :
    Model.body (F := Ideal) x0 a1 a2 a3 a4 x5 x6 (ix2 r n) = Ref.model (F := Ideal) a0 a1 a2 a3 a4 a5 a6 (ix3 0 r n) := by
  rw [Body.body_at, Ref.model, RefAt.proj_at]
  refine Finset.sum_congr rfl fun c _ => ?_
  have hc : (⟨c.val / 16 * 16 + c.val % 16, by omega⟩ : Fin 128) = c := Fin.ext (Nat.div_add_mod' _ _)
  rw [RefAt.mix_at, out_at a0 a1 a2 a3 x0 h0, h5, h6, hc]

end Cert.Proof.Equal
-- ==== Proof.Claims.lean ====
/-
The five claims, one theorem each: the frames of the three programs, the named constants, and the equality of the
kernel's result with the reference's over the extended reals.
-/
module

public import proofs.«01_k».proof.Defs
public import proofs.«01_k».proof.Proof.Gen.Kernel.Frame
public import proofs.«01_k».proof.Proof.Result
public import proofs.«01_k».proof.Proof.Equal

@[expose] public section

set_option maxRecDepth 16384

noncomputable section

namespace Cert.Proof.Claims

open Idealize.ShloMosaic Idealize.SL.Sem Cert.Proof

attribute [local instance] Cert.Kernel.Gen.facts Cert.KernelIdeal.Gen.facts Cert.ReferenceIdeal.Gen.facts

/-- The kernel ends, leaves its arguments unchanged and every counter at zero. -/
theorem frame_kernel : Cert.quiescent_Kernel := fun m ρ _ => Cert.Kernel.Gen.frame m ρ

/-- The kernel with its constants named ends, leaves its arguments unchanged and every counter at zero. -/
theorem frame_kernelIdeal : Cert.quiescent_KernelIdeal := fun m ρ _ => Cert.KernelIdeal.Gen.frame m ρ

/-- The reference ends, leaves its arguments unchanged, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the real number whose rounding the kernel uses. -/
theorem preserves : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "two_log2e" .f32 0x4038AA3B#32 ((2 * (Real.log 2)⁻¹ : ℝ) : EReal) rfl⟩

/-- A matrix given a leading unit axis, at an index. -/
theorem lead_at (x : FVec Ideal Cert.KernelIdeal.S2048x512 .f32) (r : Fin 2048) (n : Fin 512) :
    broadcastInDim Cert.KernelIdeal.S1x2048x512 ![1, 2] Cert.KernelIdeal.Facts₀.bcast_S2048x512_S1x2048x512_1_2 x (ix3 0 r n)
      = x (ix2 r n) := by
  pointwise []

open Cert.KernelIdeal Cert.KernelIdeal.Gen in
/-- The kernel's result buffer ends as the region's result array with a leading unit axis. -/
theorem result (m : (ℓ : Loc Cert.KernelIdeal.nD Cert.KernelIdeal.τ Cert.KernelIdeal.sig) → Buf (Elt Ideal) ℓ)
    (c : Dev Cert.KernelIdeal.nD) :
    Pipeline.afterTail₀ cfgs (dats m) 0 (V0 m) [hostOps1] c main_v4
      = broadcastInDim (s := S2048x512) S1x2048x512 ![1, 2] bcast_S2048x512_S1x2048x512_1_2
          ((dats m 0 c).arrAt 7 (cfgs 0).N) := by
  have h : Pipeline.withArrays (cfgs 0).spec c (V0 m c) (fun w => (dats m 0 c).arrAt w (cfgs 0).N)
      (Proc.tc.devRef main_v3) = (dats m 0 c).arrAt 7 (cfgs 0).N :=
    Pipeline.withArrays_arr (cfgs 0).spec (by decide) c (V0 m c) (fun w => (dats m 0 c).arrAt w (cfgs 0).N) 7
  unfold Pipeline.afterTail₀
  simp only [List.flatten_cons, List.flatten_nil, List.append_nil]
  after_results
  rw [h]

/-- The structured kernel body under the leading axis is the structured reference, on any arguments. -/
theorem model_eq (a0 : FVec Ideal Cert.ReferenceIdeal.S1x2048x512 .f32) (a1 : FVec Ideal Cert.ReferenceIdeal.S512x64 .f32)
    (a2 : FVec Ideal Cert.ReferenceIdeal.S512x16 .f32) (a3 : FVec Ideal Cert.ReferenceIdeal.S512x32 .f32) (a4 : FVec Ideal Cert.ReferenceIdeal.S128x512 .f32)
    (a5 a6 : FVec Ideal Cert.ReferenceIdeal.S128 .f32) (x0 : FVec Ideal Cert.KernelIdeal.S2048x512 .f32)
    (x5 x6 : FVec Ideal Cert.KernelIdeal.S1x128 .f32)
    (h0 : ∀ r k, x0 (ix2 r k) = a0 (ix3 0 r k)) (h5 : ∀ k, x5 (ix2 0 k) = a5 (ix1 k)) (h6 : ∀ k, x6 (ix2 0 k) = a6 (ix1 k)) :
    Ref.model (F := Ideal) a0 a1 a2 a3 a4 a5 a6
      = broadcastInDim Cert.KernelIdeal.S1x2048x512 ![1, 2] Cert.KernelIdeal.Facts₀.bcast_S2048x512_S1x2048x512_1_2
          (Model.body (F := Ideal) x0 a1 a2 a3 a4 x5 x6) := by
  funext i
  idx_vars i
  obtain rfl : i0 = 0 := Subsingleton.elim _ _
  exact (Equal.body_eq_model a0 a1 a2 a3 a4 a5 a6 x0 x5 x6 h0 h5 h6 i1 i2).symm.trans (lead_at _ i1 i2).symm

/-- Over the extended reals the kernel's result is the reference's. -/
theorem algebraic : Cert.algebraic_KernelIdeal_ReferenceIdeal := by
  pair_intro
  · run_from Cert.KernelIdeal.Gen.run_main m g
    · exact Cert.KernelIdeal.Gen.W_main_arg0 m _ c
    · exact Cert.KernelIdeal.Gen.W_main_arg5 m _ c
    · exact Cert.KernelIdeal.Gen.W_main_arg6 m _ c
  · run_from Cert.ReferenceIdeal.Value.run m' g'
    rw [result m c, Result.final m c]
    refine (Ref.res_eq m' c).trans ?_
    rw [(hagree c).1, (hagree c).2.1, (hagree c).2.2.1, (hagree c).2.2.2.1, (hagree c).2.2.2.2.1, (hagree c).2.2.2.2.2.1,
      (hagree c).2.2.2.2.2.2]
    exact model_eq _ _ _ _ _ _ _ _ _ _ (fun r k => (congrFun (Result.tokens_eq m c) _).trans (Result.tokens_cast _ r k))
      (fun k => (congrFun (Result.emb0_eq m c) _).trans (Result.emb_cast _ k))
      (fun k => (congrFun (Result.emb1_eq m c) _).trans (Result.emb_cast _ k))

end Cert.Proof.Claims
-- ==== Proof.lean ====
/-
The certificate's claims, assembled: the three frames, the named constants, and the equality of the kernel's result
with the reference's over the extended reals. Each is proved in its own theorem of `Proof/Claims.lean`.
-/
module

public import proofs.«01_k».proof.Defs
public import proofs.«01_k».proof.Proof.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    Claims.frame_kernel, Claims.frame_kernelIdeal, Claims.frame_reference, Claims.preserves, Claims.algebraic⟩

end Cert.Proof

end
